-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "two_pi_hi" .f32 0x40C90000#32 (((607618132197707707 / 303902672285820882) * Real.pi : ℝ) : EReal)
  ∧ IdealRules.named_const.Statement Cert.KernelIdeal.κ "two_pi_mid" .f32 0x3AFDAA22#32 (((611 / 991839) * Real.pi : ℝ) : EReal)
  ∧ IdealRules.named_const.Statement Cert.KernelIdeal.κ "two_pi_lo" .f32 0x2D346000#32 (((1 / 306403229038) * Real.pi : ℝ) : EReal)
  ∧ IdealRules.named_const.Statement Cert.KernelIdeal.κ "inv_d_model" .f32 0x39124925#32 ((1 / 7168 : ℝ) : EReal)
  ∧ IdealRules.named_const.Statement Cert.KernelIdeal.κ "log2_e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_v7_3) = v3 c
          ∧ r.2.mem ((c.tc : Thread Cert.ReferenceIdeal.nD Cert.ReferenceIdeal.τ).loc Cert.ReferenceIdeal.main_v7_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x7168 : Shape := ⟨3, ![1, 8192, 7168]⟩
abbrev S7168 : Shape := ⟨1, ![7168]⟩
abbrev S7168x1152 : Shape := ⟨2, ![7168, 1152]⟩
abbrev S1152 : Shape := ⟨1, ![1152]⟩
abbrev S1x8192 : Shape := ⟨2, ![1, 8192]⟩
abbrev S1x128 : Shape := ⟨2, ![1, 128]⟩
abbrev S8192x7168 : Shape := ⟨2, ![8192, 7168]⟩
abbrev S1x7168 : Shape := ⟨2, ![1, 7168]⟩
abbrev S1x1152 : Shape := ⟨2, ![1, 1152]⟩
abbrev S32x1x256 : Shape := ⟨3, ![32, 1, 256]⟩
abbrev S7x8192x128 : Shape := ⟨3, ![7, 8192, 128]⟩
abbrev S1x8192x128 : Shape := ⟨3, ![1, 8192, 128]⟩
abbrev S256x7168 : Shape := ⟨2, ![256, 7168]⟩
abbrev S1x1x256 : Shape := ⟨3, ![1, 1, 256]⟩
abbrev S7x256x128 : Shape := ⟨3, ![7, 256, 128]⟩
abbrev S1x256x128 : Shape := ⟨3, ![1, 256, 128]⟩
abbrev S256x128 : Shape := ⟨2, ![256, 128]⟩
abbrev S256x1152 : Shape := ⟨2, ![256, 1152]⟩
abbrev S1x256 : Shape := ⟨2, ![1, 256]⟩
abbrev S128x256 : Shape := ⟨2, ![128, 256]⟩
abbrev S32x128 : Shape := ⟨2, ![32, 128]⟩
abbrev S32 : Shape := ⟨1, ![32]⟩
abbrev S32x1 : Shape := ⟨2, ![32, 1]⟩

abbrev nBuf : Space → Nat
  | .hbm => 15
  | .vmem => 22
  | .smem => 0
  | _ => 0

abbrev bufTy : (tb : Table) → Fin (tcTables nBuf tb) → BufTy
  | .hbm, ⟨0, _⟩ => ⟨S1x8192x7168, .bf16⟩
  | .hbm, ⟨1, _⟩ => ⟨S7168, .bf16⟩
  | .hbm, ⟨2, _⟩ => ⟨S7168x1152, .fp8e4m3⟩
  | .hbm, ⟨3, _⟩ => ⟨S1152, .f32⟩
  | .hbm, ⟨4, _⟩ => ⟨S1x8192, .i32⟩
  | .hbm, ⟨5, _⟩ => ⟨S1x128, .f32⟩
  | .hbm, ⟨6, _⟩ => ⟨S8192x7168, .bf16⟩
  | .hbm, ⟨7, _⟩ => ⟨S1x7168, .bf16⟩
  | .hbm, ⟨8, _⟩ => ⟨S1x1152, .f32⟩
  | .hbm, ⟨9, _⟩ => ⟨S32x1x256, .i32⟩
  | .hbm, ⟨10, _⟩ => ⟨S7x8192x128, .bf16⟩
  | .hbm, ⟨11, _⟩ => ⟨S1x8192x128, .bf16⟩
  | .hbm, ⟨12, _⟩ => ⟨S1x8192x128, .bf16⟩
  | .hbm, ⟨13, _⟩ => ⟨S8192x7168, .fp8e4m3⟩
  | .hbm, ⟨14, _⟩ => ⟨S32x1x256, .f32⟩
  | .local _ .vmem, ⟨0, _⟩ => ⟨S256x7168, .bf16⟩
  | .local _ .vmem, ⟨1, _⟩ => ⟨S256x7168, .bf16⟩
  | .local _ .vmem, ⟨2, _⟩ => ⟨S1x7168, .bf16⟩
  | .local _ .vmem, ⟨3, _⟩ => ⟨S7168x1152, .fp8e4m3⟩
  | .local _ .vmem, ⟨4, _⟩ => ⟨S1x1152, .f32⟩
  | .local _ .vmem, ⟨5, _⟩ => ⟨S1x1x256, .i32⟩
  | .local _ .vmem, ⟨6, _⟩ => ⟨S1x1x256, .i32⟩
  | .local _ .vmem, ⟨7, _⟩ => ⟨S1x128, .f32⟩
  | .local _ .vmem, ⟨8, _⟩ => ⟨S7x256x128, .bf16⟩
  | .local _ .vmem, ⟨9, _⟩ => ⟨S7x256x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x256x128, .bf16⟩
  | .local _ .vmem, ⟨13, _⟩ => ⟨S1x256x128, .bf16⟩
  | .local _ .vmem, ⟨14, _⟩ => ⟨S256x7168, .fp8e4m3⟩
  | .local _ .vmem, ⟨15, _⟩ => ⟨S256x7168, .fp8e4m3⟩
  | .local _ .vmem, ⟨16, _⟩ => ⟨S1x1x256, .f32⟩
  | .local _ .vmem, ⟨17, _⟩ => ⟨S1x1x256, .f32⟩
  | .local _ .vmem, ⟨18, _⟩ => ⟨S1x7168, .f32⟩
  | .local _ .vmem, ⟨19, _⟩ => ⟨S256x7168, .f32⟩
  | .local _ .vmem, ⟨20, _⟩ => ⟨S256x7168, .fp8e4m3⟩
  | .local _ .vmem, ⟨21, _⟩ => ⟨S256x128, .f32⟩
  | _, _ => ⟨S1x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7168x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S7x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x7168 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_d_model" => some ((1 / 7168 : ℝ) : EReal)
  | "log2_e" => some (((Real.log 2)⁻¹ : ℝ) : EReal)
  | "two_pi_hi" => some (((607618132197707707 / 303902672285820882) * Real.pi : ℝ) : EReal)
  | "two_pi_lo" => some (((1 / 306403229038) * Real.pi : ℝ) : EReal)
  | "two_pi_mid" => some (((611 / 991839) * Real.pi : ℝ) : EReal)
  | _ => none
-- ==== ReferenceIdeal.lean ====
abbrev S1x8192x7168 : Shape := ⟨3, ![1, 8192, 7168]⟩
abbrev S7168 : Shape := ⟨1, ![7168]⟩
abbrev S7168x1152 : Shape := ⟨2, ![7168, 1152]⟩
abbrev S1152 : Shape := ⟨1, ![1152]⟩
abbrev S1x8192 : Shape := ⟨2, ![1, 8192]⟩
abbrev S64 : Shape := ⟨1, ![64]⟩
abbrev S64x2 : Shape := ⟨2, ![64, 2]⟩
abbrev S128 : Shape := ⟨1, ![128]⟩
abbrev S1x128 : Shape := ⟨2, ![1, 128]⟩
abbrev S8192x7168 : Shape := ⟨2, ![8192, 7168]⟩
abbrev S1x7168 : Shape := ⟨2, ![1, 7168]⟩
abbrev S1x1152 : Shape := ⟨2, ![1, 1152]⟩
abbrev S8192x1 : Shape := ⟨2, ![8192, 1]⟩
abbrev S7x8192x128 : Shape := ⟨3, ![7, 8192, 128]⟩
abbrev S1x8192x128 : Shape := ⟨3, ![1, 8192, 128]⟩
abbrev S32x1x256 : Shape := ⟨3, ![32, 1, 256]⟩
abbrev S8192 : Shape := ⟨1, ![8192]⟩
abbrev S8192x1152 : Shape := ⟨2, ![8192, 1152]⟩
abbrev S8192x128 : Shape := ⟨2, ![8192, 128]⟩
abbrev S8192x127 : Shape := ⟨2, ![8192, 127]⟩

abbrev nBuf : Space → Nat
  | .hbm => 18
  | .vmem => 11
  | .smem => 0
  | _ => 0

abbrev bufTy : (tb : Table) → Fin (tcTables nBuf tb) → BufTy
  | .hbm, ⟨0, _⟩ => ⟨S1x8192x7168, .bf16⟩
  | .hbm, ⟨1, _⟩ => ⟨S7168, .bf16⟩
  | .hbm, ⟨2, _⟩ => ⟨S7168x1152, .fp8e4m3⟩
  | .hbm, ⟨3, _⟩ => ⟨S1152, .f32⟩
  | .hbm, ⟨4, _⟩ => ⟨S1x8192, .i32⟩
  | .hbm, ⟨5, _⟩ => ⟨S64, .f32⟩
  | .hbm, ⟨6, _⟩ => ⟨S64x2, .f32⟩
  | .hbm, ⟨7, _⟩ => ⟨S128, .f32⟩
  | .hbm, ⟨8, _⟩ => ⟨S1x128, .f32⟩
  | .hbm, ⟨9, _⟩ => ⟨S8192x7168, .bf16⟩
  | .hbm, ⟨10, _⟩ => ⟨S1x7168, .bf16⟩
  | .hbm, ⟨11, _⟩ => ⟨S1x1152, .f32⟩
  | .hbm, ⟨12, _⟩ => ⟨S8192x1, .i32⟩
  | .hbm, ⟨13, _⟩ => ⟨S7x8192x128, .bf16⟩
  | .hbm, ⟨14, _⟩ => ⟨S1x8192x128, .bf16⟩
  | .hbm, ⟨15, _⟩ => ⟨S1x8192x128, .bf16⟩
  | .hbm, ⟨16, _⟩ => ⟨S8192x7168, .fp8e4m3⟩
  | .hbm, ⟨17, _⟩ => ⟨S32x1x256, .f32⟩
  | .local _ .vmem, ⟨0, _⟩ => ⟨S8192x7168, .bf16⟩
  | .local _ .vmem, ⟨1, _⟩ => ⟨S1x7168, .bf16⟩
  | .local _ .vmem, ⟨2, _⟩ => ⟨S7168x1152, .fp8e4m3⟩
  | .local _ .vmem, ⟨3, _⟩ => ⟨S1x1152, .f32⟩
  | .local _ .vmem, ⟨4, _⟩ => ⟨S8192x1, .i32⟩
  | .local _ .vmem, ⟨5, _⟩ => ⟨S1x128, .f32⟩
  | .local _ .vmem, ⟨6, _⟩ => ⟨S7x8192x128, .bf16⟩
  | .local _ .vmem, ⟨7, _⟩ => ⟨S1x8192x128, .bf16⟩
  | .local _ .vmem, ⟨8, _⟩ => ⟨S1x8192x128, .bf16⟩
  | .local _ .vmem, ⟨9, _⟩ => ⟨S8192x7168, .fp8e4m3⟩
  | .local _ .vmem, ⟨10, _⟩ => ⟨S32x1x256, .f32⟩
  | _, _ => ⟨S1x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8192x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7x8192x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8192x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8192x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Row.lean ====
/- UNTRUSTED — the arithmetic of one row over the extended reals, free of any program: the reciprocal root mean square is
   not negative, so it may be taken out of the row's greatest magnitude; a quotient by `log 2` is a product with its
   reciprocal; and a sine or cosine is unchanged when a whole number of periods, taken away in three parts, leaves the
   angle. -/
module

public import Idealize.ShloMosaic.PureOps.Ideal
public import Idealize.ShloMosaic.PureOps.IdealRules
public import Idealize.ShloMosaic.PureOps.Ideal.Laws

@[expose] public section

noncomputable section

namespace Cert.Row

open Idealize.ShloMosaic
open scoped BigOperators

/-! ### The constants both programs spell -/

/-- `1e-5` as an f32 word denotes a positive real. -/
theorem eps_pos : 0 < Ideal.ofBits .f32 0x3727C5AC#32 := by
  simp [Ideal.ofBits, Ideal.ieee, -EReal.coe_mul]; try norm_num

/-- `7168.0` denotes the real `7168`. -/
theorem ofBits_width : Ideal.ofBits .f32 0x45E00000#32 = ((7168 : ℝ) : EReal) := by
  simp [Ideal.ofBits, Ideal.ieee, -EReal.coe_mul]; norm_num

/-- `2.0` denotes the real `2`. -/
theorem ofBits_two : Ideal.ofBits .f32 0x40000000#32 = ((2 : ℝ) : EReal) := by
  simp [Ideal.ofBits, Ideal.ieee, -EReal.coe_mul]; try norm_num

/-- The word of minus infinity denotes the least extended real. -/
theorem ofBits_negInf : Ideal.ofBits .f32 0xFF800000#32 = (⊥ : EReal) := by
  simp [Ideal.ofBits, Ideal.ieee]

/-- A word whose exponent field is not all ones denotes a real number. -/
theorem ofBits_real (b : BitVec 32) (h : (b.extractLsb' 23 8).toNat ≠ 255) :
    ∃ r : ℝ, Ideal.ofBits .f32 b = (r : EReal) := by
  unfold Ideal.ofBits Ideal.ieee
  dsimp only
  rw [if_neg (by simpa using h)]
  split <;> exact ⟨_, rfl⟩

/-! ### The mean square -/

/-- Every square is at least zero. -/
theorem mul_self_nonneg' (x : EReal) : 0 ≤ x * x := by
  induction x with
  | bot => simp
  | top => simp
  | coe r => exact_mod_cast mul_self_nonneg r

/-- The reciprocal root of a nonnegative mean plus the small constant is not negative. -/
theorem rsqrt_nonneg {a : EReal} (h : 0 ≤ a) : 0 ≤ Ideal.rsqrt (a + Ideal.ofBits .f32 0x3727C5AC#32) := by
  have hp : 0 < a + Ideal.ofBits .f32 0x3727C5AC#32 := lt_of_lt_of_le eps_pos (le_add_of_nonneg_left h)
  generalize a + Ideal.ofBits .f32 0x3727C5AC#32 = b at hp
  induction b with
  | bot => simp at hp
  | top => simp
  | coe r =>
    have hr : (0 : ℝ) < r := by exact_mod_cast hp
    rw [Ideal.rsqrt_coe, if_neg (not_lt.mpr hr.le), if_neg hr.ne']
    exact_mod_cast inv_nonneg.mpr (Real.sqrt_nonneg r)

/-- A quotient by `7168` is the product with `1/7168`. -/
theorem div_width (s : EReal) : Ideal.div s (Ideal.ofBits .f32 0x45E00000#32) = s * ((1 / 7168 : ℝ) : EReal) := by
  rw [ofBits_width]; exact Ideal.div_coe (by norm_num : (7168 : ℝ) ≠ 0) s

/-- The mean of squares is not negative. -/
theorem mean_nonneg {ι : Type} [Fintype ι] (x : ι → EReal) : 0 ≤ (∑ k, x k * x k) * ((1 / 7168 : ℝ) : EReal) :=
  mul_nonneg (Finset.sum_nonneg fun k _ => mul_self_nonneg' (x k)) (by exact_mod_cast (by norm_num : (0 : ℝ) ≤ 1 / 7168))

/-! ### The greatest magnitude -/

/-- A magnitude scaled by a nonnegative factor. -/
theorem abs_mul {c : EReal} (hc : 0 ≤ c) (a : EReal) : max (a * c) (-(a * c)) = max a (-a) * c := by
  rw [← EReal.neg_mul]
  exact ((monotone_id.mul_const hc).map_max (a := a) (b := -a)).symm

/-- A magnitude is not negative. -/
theorem abs_nonneg' (a : EReal) : 0 ≤ max a (-a) := by
  rcases le_total 0 a with h | h
  · exact le_max_of_le_left h
  · exact le_max_of_le_right (by simpa using EReal.neg_le_neg_iff.mpr h)

/-- A nonnegative factor common to a row goes outside the row's maximum (the row is not empty and no entry is negative, so
    the starting value, minus infinity, does not matter). -/
theorem fold_max_mul {ι : Type} [Fintype ι] [Nonempty ι] {c : EReal} (hc : 0 ≤ c) (a : ι → EReal) (ha : ∀ k, 0 ≤ a k) :
    (Finset.univ : Finset ι).fold max ⊥ (fun k => a k * c) = (Finset.univ : Finset ι).fold max ⊥ a * c := by
  classical
  have key : ∀ s : Finset ι, s.Nonempty → s.fold max ⊥ (fun k => a k * c) = s.fold max ⊥ a * c := by
    intro s hs
    induction hs using Finset.Nonempty.cons_induction with
    | singleton k => simp
    | cons k s hk hs ih =>
      rw [Finset.fold_cons, Finset.fold_cons, ih]
      exact ((monotone_id.mul_const hc).map_max (a := a k) (b := s.fold max ⊥ a)).symm
  exact key _ Finset.univ_nonempty

/-- So the greatest magnitude of the normalised row is the greatest magnitude of the weighted row times the reciprocal root
    mean square. -/
theorem amax_eq {ι : Type} [Fintype ι] [Nonempty ι] {c : EReal} (hc : 0 ≤ c) (x w : ι → EReal) :
    (Finset.univ : Finset ι).fold max ⊥ (fun k => max (x k * c * w k) (-(x k * c * w k)))
      = (Finset.univ : Finset ι).fold max ⊥ (fun k => max (x k * w k) (-(x k * w k))) * c := by
  rw [← fold_max_mul hc _ fun k => abs_nonneg' _]
  congr 1; funext k
  rw [mul_right_comm, abs_mul hc]

/-! ### The exponent -/

/-- A quotient by the logarithm of two is the product with its reciprocal. -/
theorem div_log_two (s : EReal) :
    Ideal.div s (Ideal.log (Ideal.ofBits .f32 0x40000000#32)) = s * (((Real.log 2)⁻¹ : ℝ) : EReal) := by
  rw [ofBits_two]
  have h : Ideal.log ((2 : ℝ) : EReal) = ((Real.log 2 : ℝ) : EReal) := by
    rw [Ideal.log_coe, if_neg]; norm_num
  rw [h, Ideal.div_coe (Real.log_pos (by norm_num)).ne', one_div]

/-! ### The angle -/

/-- An angle less a whole number of periods, the period taken away in three parts that add up to `2π`. -/
theorem reduced (a : ℝ) (n : ℤ) {h m l : ℝ} (hs : h + m + l = 2 * Real.pi) :
    (a : EReal) - (n : ℝ) * (h : EReal) - (n : ℝ) * (m : EReal) - (n : ℝ) * (l : EReal)
      = ((a - n * (2 * Real.pi) : ℝ) : EReal) := by
  rw [← hs, ← EReal.coe_mul, ← EReal.coe_mul, ← EReal.coe_mul, ← EReal.coe_sub, ← EReal.coe_sub, ← EReal.coe_sub]
  exact congrArg _ (by ring)

/-- The sine does not see the periods taken away. -/
theorem sin_reduced (a : ℝ) (n : ℤ) {h m l : ℝ} (hs : h + m + l = 2 * Real.pi) :
    Ideal.sin ((a : EReal) - (n : ℝ) * (h : EReal) - (n : ℝ) * (m : EReal) - (n : ℝ) * (l : EReal)) = Ideal.sin a := by
  rw [reduced a n hs, Ideal.sin_coe, Ideal.sin_coe, Real.sin_sub_int_mul_two_pi]

/-- Nor does the cosine. -/
theorem cos_reduced (a : ℝ) (n : ℤ) {h m l : ℝ} (hs : h + m + l = 2 * Real.pi) :
    Ideal.cos ((a : EReal) - (n : ℝ) * (h : EReal) - (n : ℝ) * (m : EReal) - (n : ℝ) * (l : EReal)) = Ideal.cos a := by
  rw [reduced a n hs, Ideal.cos_coe, Ideal.cos_coe, Real.cos_sub_int_mul_two_pi]

/-- A real rounded to the nearest integer is an integer. -/
theorem round_coe (r : ℝ) : Ideal.liftRound Ideal.roundHalfEven (r : EReal) = ((Ideal.roundHalfEven r : ℤ) : ℝ) := rfl

end Cert.Row

end
-- ==== Proof.Spec.lean ====
/- UNTRUSTED — the problem's mathematics for one token row, over the extended reals, entry by entry: the normalised row, the
   power-of-two scale its greatest magnitude calls for, its codes, its projection, and the rotation of a head by the
   token's angles. The second half says that the block program's way of writing each of them is the same value. -/
module

public import proofs.«01_k».proof.Proof.Row

@[expose] public section

noncomputable section

namespace Cert.Spec

open Idealize.ShloMosaic
open scoped BigOperators

/-- The reciprocal root mean square of a row of 7168 entries. -/
def inv (x : Fin 7168 → EReal) : EReal :=
  Ideal.rsqrt (Ideal.div (∑ k, x k * x k) (Ideal.ofBits .f32 0x45E00000#32) + Ideal.ofBits .f32 0x3727C5AC#32)

/-- The row normalised and weighted. -/
def norm (x w : Fin 7168 → EReal) (k : Fin 7168) : EReal := x k * inv x * w k

/-- The greatest magnitude of the normalised row, in units of the largest code (`1/448`). -/
def peak (x w : Fin 7168 → EReal) : EReal :=
  (Finset.univ : Finset (Fin 7168)).fold max (Ideal.ofBits .f32 0xFF800000#32) (fun k => max (norm x w k) (-norm x w k))
    * Ideal.ofBits .f32 0x3B124925#32

/-- The scale's exponent at a peak `z`, with the base-two logarithm of `z` given: zero at zero, else the logarithm rounded
    down, plus one. -/
def expoOf (z l : EReal) : EReal :=
  Scalar.select (Ideal.cmp .oeq z (Ideal.ofBits .f32 0x00000000#32)) (Ideal.ofBits .f32 0x00000000#32)
    (Ideal.liftRound Int.floor l + Ideal.ofBits .f32 0x3F800000#32)

/-- The exponent of a row's scale. -/
def expo (x w : Fin 7168 → EReal) : EReal :=
  expoOf (peak x w) (Ideal.div (Ideal.log (peak x w)) (Ideal.log (Ideal.ofBits .f32 0x40000000#32)))

/-- A row's scale: a power of two. -/
def scale (x w : Fin 7168 → EReal) : EReal := Ideal.exp2 (expo x w)

/-- A value clipped to the range of a code. -/
def clip (v : EReal) : EReal := min (Ideal.ofBits .f32 0x43E00000#32) (max (Ideal.ofBits .f32 0xC3E00000#32) v)

/-- A row's codes: the normalised row divided by its scale and clipped. -/
def code (x w : Fin 7168 → EReal) (k : Fin 7168) : EReal :=
  clip (norm x w k * Ideal.exp2 (Ideal.ofBits .f32 0x00000000#32 - expo x w))

/-- The codes' product with one weight column. -/
def acc (x w : Fin 7168 → EReal) (col : Fin 7168 → EReal) : EReal := ∑ k, code x w k * col k

/-- One column of the projection: the product, scaled back by the row's scale and the column's. -/
def proj (x w col : Fin 7168 → EReal) (ws : EReal) : EReal := acc x w col * scale x w * ws

/-- The sine with the sign of the rotation: minus at even lanes. -/
def signed (even : BitVec 1) (s : EReal) : EReal := Scalar.select even (Ideal.ofBits .f32 0x00000000#32 - s) s

/-- A lane of a rotated head: `t` the lane's projection, `p` its partner's, `a` the angle. -/
def rope (even : BitVec 1) (t p a : EReal) : EReal := t * Ideal.cos a + p * signed even (Ideal.sin a)

/-- Whether a lane is even, as a truth value of one bit. -/
def even (l : Fin 128) : BitVec 1 := if l.val % 2 = 0 then 1#1 else 0#1

/-- The lane a lane is rotated with: the next one of an even lane, the one before of an odd lane. -/
def partner (l : Fin 128) : Fin 128 := ⟨if l.val % 2 = 0 then l.val + 1 else l.val - 1, by split <;> omega⟩

/-- A choice by the parity of the lane between what stands one lane on and one lane back is the partner's. -/
theorem select_partner {α : Type} (l : Fin 128) (a b : α) (f : Fin 128 → α)
    (ha : ∀ h : l.val + 1 < 128, a = f ⟨l.val + 1, h⟩) (hb : ∀ _ : 1 ≤ l.val, b = f ⟨l.val - 1, by omega⟩) :
    Scalar.select (even l) a b = f (partner l) := by
  unfold even partner
  by_cases h : l.val % 2 = 0
  · simp only [h, if_true]
    exact ha (by omega)
  · simp only [h, if_false]
    exact hb (by omega)

/-! ### The block program's spelling -/

/-- The reciprocal root mean square with the mean taken as a product with `1/7168`. -/
theorem inv_eq (x : Fin 7168 → EReal) :
    Ideal.rsqrt ((∑ k, x k * x k) * ((1 / 7168 : ℝ) : EReal) + Ideal.ofBits .f32 0x3727C5AC#32) = inv x := by
  rw [inv, Row.div_width]

/-- The reciprocal root mean square is not negative. -/
theorem inv_nonneg (x : Fin 7168 → EReal) : 0 ≤ inv x := by
  rw [← inv_eq]; exact Row.rsqrt_nonneg (Row.mean_nonneg x)

/-- The peak with the reciprocal root mean square taken outside the maximum. -/
theorem peak_eq (x w : Fin 7168 → EReal) :
    (Finset.univ : Finset (Fin 7168)).fold max (Ideal.ofBits .f32 0xFF800000#32) (fun k => max (x k * w k) (-(x k * w k)))
      * inv x * Ideal.ofBits .f32 0x3B124925#32 = peak x w := by
  unfold peak norm
  rw [Row.ofBits_negInf, Row.amax_eq (inv_nonneg x)]

/-- The exponent with the logarithm multiplied by the reciprocal of `log 2`. -/
theorem expo_eq (x w : Fin 7168 → EReal) :
    expoOf (peak x w) (Ideal.log (peak x w) * (((Real.log 2)⁻¹ : ℝ) : EReal)) = expo x w := by
  rw [expo, Row.div_log_two]

/-- Four factors, the middle two exchanged. -/
theorem mul_shuffle (a b c d : EReal) : a * b * (c * d) = a * c * b * d := by
  rw [← mul_assoc, mul_right_comm a b c]

/-- A code with the two row factors multiplied first. -/
theorem code_eq (x w : Fin 7168 → EReal) (k : Fin 7168) :
    clip (x k * w k * (inv x * Ideal.exp2 (Ideal.ofBits .f32 0x00000000#32 - expo x w))) = code x w k := by
  rw [code, norm, mul_shuffle]

/-- A projected column with the column's scale applied before the row's. -/
theorem proj_eq (x w col : Fin 7168 → EReal) (ws : EReal) : acc x w col * ws * scale x w = proj x w col ws := by
  rw [proj, mul_right_comm]

/-- A rotated lane with the row's scale carried by the sine and the cosine. -/
theorem rope_eq (x w c₁ c₂ : Fin 7168 → EReal) (s₁ s₂ : EReal) (even : BitVec 1) (a : EReal) :
    acc x w c₁ * s₁ * (Ideal.cos a * scale x w) + acc x w c₂ * s₂ * (signed even (Ideal.sin a) * scale x w)
      = rope even (proj x w c₁ s₁) (proj x w c₂ s₂) a := by
  rw [rope, ← proj_eq, ← proj_eq]
  refine congrArg₂ (· + ·) ?_ ?_
  · rw [mul_comm (Ideal.cos a), mul_assoc _ _ (Ideal.cos a)]
  · rw [mul_comm (signed even (Ideal.sin a)), mul_assoc _ _ (signed even (Ideal.sin a))]

end Cert.Spec

end
-- ==== Proof.Answer.lean ====
/- UNTRUSTED — the five result arrays, entry by entry, as functions of the five arguments. -/
module

public import proofs.«01_k».proof.Proof.Spec
public import Idealize.ShloMosaic.Lib.Pointwise

@[expose] public section

noncomputable section

namespace Cert.Answer

open Idealize.ShloMosaic

variable (X : Vec Ideal ⟨3, ![1, 8192, 7168]⟩ .bf16) (W : Vec Ideal ⟨1, ![7168]⟩ .bf16)
  (Q : Vec Ideal ⟨2, ![7168, 1152]⟩ .fp8e4m3) (S : Vec Ideal ⟨1, ![1152]⟩ .f32)
  (P : Vec Ideal ⟨2, ![1, 8192]⟩ .i32) (f : Fin 128 → EReal)

/-- A token's activations. -/
def tok (i : Fin 8192) (k : Fin 7168) : EReal := X (ix3 0 i k)

/-- The norm's weights. -/
def wgt (k : Fin 7168) : EReal := W (ix1 k)

/-- A column of the projection's codes. -/
def col (n : Fin 1152) (k : Fin 7168) : EReal := Q (ix2 k n)

/-- A token's angle at a lane. -/
def angle (i : Fin 8192) (l : Fin 128) : EReal := (((P (ix2 0 i)).toInt : ℝ) : EReal) * f l

/-- A token's projection on a column. -/
def proj (i : Fin 8192) (n : Fin 1152) : EReal := Spec.proj (tok X i) (wgt W) (col Q n) (S (ix1 n))

/-- A lane of a rotated head whose columns start at `o`. -/
def rope (o : ℕ) (ho : o + 128 ≤ 1152) (i : Fin 8192) (l : Fin 128) : EReal :=
  Spec.rope (Spec.even l) (proj X W Q S i ⟨o + l.val, by omega⟩) (proj X W Q S i ⟨o + (Spec.partner l).val, by omega⟩)
    (angle P f i l)

/-- The query heads. -/
def queryAt (h : Fin 7) (i : Fin 8192) (l : Fin 128) : EReal := rope X W Q S P f (128 * h.val) (by omega) i l

/-- The query heads, as an array. -/
def queries : Vec Ideal ⟨3, ![7, 8192, 128]⟩ .bf16 := fun y => queryAt X W Q S P f (y 0) (y 1) (y 2)

/-- The key head. -/
def keyAt (i : Fin 8192) (l : Fin 128) : EReal := rope X W Q S P f 896 (by omega) i l

/-- The key head, as an array. -/
def key : Vec Ideal ⟨3, ![1, 8192, 128]⟩ .bf16 := fun y => keyAt X W Q S P f (y 1) (y 2)

/-- The value head. -/
def valueAt (i : Fin 8192) (l : Fin 128) : EReal := proj X W Q S i ⟨1024 + l.val, by omega⟩

/-- The value head, as an array. -/
def value : Vec Ideal ⟨3, ![1, 8192, 128]⟩ .bf16 := fun y => valueAt X W Q S (y 1) (y 2)

/-- The codes. -/
def codeAt (i : Fin 8192) (k : Fin 7168) : EReal := Spec.code (tok X i) (wgt W) k

/-- The codes, as an array. -/
def codes : Vec Ideal ⟨2, ![8192, 7168]⟩ .fp8e4m3 := fun y => codeAt X W (y 0) (y 1)

/-- The scales: token `256 * b + r`'s. -/
def scaleAt (b : Fin 32) (r : Fin 256) : EReal := Spec.scale (tok X ⟨256 * b.val + r.val, by omega⟩) (wgt W)

/-- The scales, as an array of 256 tokens to a row. -/
def scales : Vec Ideal ⟨3, ![32, 1, 256]⟩ .f32 := fun y => scaleAt X W (y 0) (y 2)

end Cert.Answer

end
-- ==== Proof.Tile.lean ====
/- UNTRUSTED — the kernel's work on one group of 32 rows, written once for any group: the 56 tiles of 128 entries, their
   products with the weight row, the running sum of squares and running maximum down the tiles, and from these the factor
   the group's products are multiplied by, the group's scales and its codes. -/
module

public import proofs.«01_k».proof.Proof.Gen.KernelIdeal
public import proofs.«01_k».proof.Proof.Spec
public import Idealize.ShloMosaic.Lib.Pointwise

@[expose] public section

set_option maxRecDepth 16384

noncomputable section

namespace Cert.Tile

open Idealize.ShloMosaic Cert.KernelIdeal Cert.KernelIdeal.Gen
open scoped BigOperators

variable {F : FTy → Type} [FloatOps F] [Named F]

/-- A tile of the activations, widened. -/
def wide (a : Vec F S32x128 .bf16) : FVec F S32x128 .f32 :=
  extf .f32 (shapeCast S32x128 a shapeCasts_S32x128_S32x128) bitsLt_bf16_f32

/-- A tile times the weight row's tile. -/
def times (a : Vec F S32x128 .bf16) (b : Vec F S1x128 .f32) : FVec F S32x128 .f32 :=
  mulf (wide a) (broadcastTo S32x128 b broadcasts_S1x128_S32x128)

/-- The squares added up, tile after tile. -/
def squares (x : ℕ → Vec F S32x128 .bf16) : ℕ → FVec F S32x128 .f32
  | 0 => mulf (wide (x 0)) (wide (x 0))
  | n + 1 => addf (squares x n) (mulf (wide (x (n + 1))) (wide (x (n + 1))))

/-- The greatest magnitude of the products, tile after tile. -/
def peaks (x : ℕ → Vec F S32x128 .bf16) (w : ℕ → Vec F S1x128 .f32) : ℕ → FVec F S32x128 .f32
  | 0 => absf (times (x 0) (w 0))
  | n + 1 => maximumf (peaks x w n) (absf (times (x (n + 1)) (w (n + 1))))

/-- The reciprocal root mean square of each row, from the sum of squares lane by lane. -/
def invRms (s : FVec F S32x128 .f32) : FVec F S32x1 .f32 :=
  rsqrt (addf (mulf (shapeCast S32x1 (multiReduction .add [1] S32 s 0x00000000#32 reduces_S32x128_S32 (.inl rfl) rfl)
    shapeCasts_S32_S32x1) (broadcast S32x1 (Named.named κ "inv_d_model" 0x39124925#32)))
    (broadcast S32x1 (Scalar.ofBits .f32 0x3727C5AC#32)))

/-- The greatest magnitude of each normalised row, in units of the largest code. -/
def top (s p : FVec F S32x128 .f32) : FVec F S32x1 .f32 :=
  mulf (mulf (shapeCast S32x1 (multiReduction .maximumf [1] S32 p 0xFF800000#32 reduces_S32x128_S32 (.inl rfl) rfl)
    shapeCasts_S32_S32x1) (invRms s)) (broadcast S32x1 (Scalar.ofBits .f32 0x3B124925#32))

/-- The exponent of each row's scale. -/
def expo (s p : FVec F S32x128 .f32) : FVec F S32x1 .f32 :=
  select (cmpf .oeq (top s p) (broadcast S32x1 (Scalar.ofBits .f32 0x00000000#32)))
    (broadcast S32x1 (Scalar.ofBits .f32 0x00000000#32))
    (addf (floor (mulf (log (top s p)) (broadcast S32x1 (Named.named κ "log2_e" 0x3FB8AA3B#32))))
      (broadcast S32x1 (Scalar.ofBits .f32 0x3F800000#32)))

/-- The factor each row's products are multiplied by, at every lane. -/
def mult (s p : FVec F S32x128 .f32) : FVec F S32x128 .f32 :=
  broadcastTo S32x128 (shapeCast S32x1 (mulf (invRms s)
    (exp2 (subf (broadcast S32x1 (Scalar.ofBits .f32 0x00000000#32)) (expo s p)))) shapeCasts_S32x1_S32x1)
    broadcasts_S32x1_S32x128

/-- Each row's scale, at every lane. -/
def scale (s p : FVec F S32x128 .f32) : FVec F S32x128 .f32 :=
  shapeCast S32x128 (broadcastTo S32x128 (shapeCast S32x1 (exp2 (expo s p)) shapeCasts_S32x1_S32x1)
    broadcasts_S32x1_S32x128) shapeCasts_S32x128_S32x128

/-- A tile of products as it is stored. -/
def stored (a : Vec F S32x128 .bf16) (b : Vec F S1x128 .f32) : FVec F S32x128 .f32 :=
  shapeCast S32x128 (times a b) shapeCasts_S32x128_S32x128

/-- A tile of codes, from the tile of products and the factor. -/
def code (q m : FVec F S32x128 .f32) : FVec F S32x128 .fp8e4m3 :=
  truncf .fp8e4m3 (minimumf (broadcast S32x128 (Scalar.ofBits .f32 0x43E00000#32))
    (maximumf (broadcast S32x128 (Scalar.ofBits .f32 0xC3E00000#32)) (mulf q m))) bitsLt_fp8e4m3_f32

/-- The same as it is kept for the next block. -/
def kept (q m : FVec F S32x128 .f32) : FVec F S32x128 .fp8e4m3 :=
  shapeCast S32x128 (code q m) shapeCasts_S32x128_S32x128

/-! ### At an index, over the extended reals -/

/-- A widened tile has the same entries. -/
theorem wide_apply (a : Vec Ideal S32x128 .bf16) (j : S32x128.Idx) : wide a j = a j := by
  pointwise [wide]

/-- A tile times its weights, entry by entry. -/
theorem times_apply (a : Vec Ideal S32x128 .bf16) (b : Vec Ideal S1x128 .f32) (r : Fin 32) (l : Fin 128) :
    times a b (ix2 r l) = a (ix2 r l) * b (ix2 0 l) := by
  pointwise [times, wide]

/-- The running sum of squares, entry by entry. -/
theorem squares_apply (x : ℕ → Vec Ideal S32x128 .bf16) (n : ℕ) (j : S32x128.Idx) :
    squares x n j = ∑ c ∈ Finset.range (n + 1), x c j * x c j := by
  induction n with
  | zero => pointwise [squares, wide]; simp
  | succ n ih =>
    rw [Finset.sum_range_succ, ← ih]
    pointwise [squares, wide]

/-- The running greatest product is at most a bound exactly when the size of every product so far is. -/
theorem peaks_le (x : ℕ → Vec Ideal S32x128 .bf16) (w : ℕ → Vec Ideal S1x128 .f32) (n : ℕ) (r : Fin 32) (l : Fin 128)
    (b : EReal) : peaks x w n (ix2 r l) ≤ b ↔
      ∀ c ≤ n, max (x c (ix2 r l) * w c (ix2 0 l)) (-(x c (ix2 r l) * w c (ix2 0 l))) ≤ b := by
  induction n with
  | zero =>
    have h : peaks x w 0 (ix2 r l)
        = max (x 0 (ix2 r l) * w 0 (ix2 0 l)) (-(x 0 (ix2 r l) * w 0 (ix2 0 l))) := by
      pointwise [peaks, times, wide]
      rfl
    rw [h]
    exact ⟨fun hb c hc => by obtain rfl : c = 0 := by omega
                             exact hb, fun hb => hb 0 le_rfl⟩
  | succ n ih =>
    have h : peaks x w (n + 1) (ix2 r l) = max (peaks x w n (ix2 r l))
        (max (x (n + 1) (ix2 r l) * w (n + 1) (ix2 0 l)) (-(x (n + 1) (ix2 r l) * w (n + 1) (ix2 0 l)))) := by
      pointwise [peaks, times, wide]
      rfl
    rw [h, max_le_iff, ih]
    constructor
    · rintro ⟨h1, h2⟩ c hc
      rcases Nat.lt_or_ge c (n + 1) with hlt | hge
      · exact h1 c (by omega)
      · obtain rfl : c = n + 1 := by omega
        exact h2
    · exact fun hb => ⟨fun c hc => hb c (by omega), hb (n + 1) le_rfl⟩

/-- The column of the row that lane `l` of tile `c` is. -/
def col (c : ℕ) (hc : c < 56) (l : Fin 128) : Fin 7168 := ⟨128 * c + l.val, by omega⟩

/-- A row summed lane by lane, down the tiles, is the row summed. -/
theorem sum_tiles (f : Fin 7168 → EReal) (v : ℕ → Fin 128 → EReal) (h : ∀ c (hc : c < 56) l, v c l = f (col c hc l)) :
    ∑ l : Fin 128, ∑ c ∈ Finset.range 56, v c l = ∑ k, f k := by
  rw [Finset.sum_comm, Finset.sum_range]
  rw [show (∑ k : Fin 7168, f k) = ∑ p : Fin 56 × Fin 128, f (finProdFinEquiv p) from
    ((finProdFinEquiv (m := 56) (n := 128)).sum_comp f).symm, Fintype.sum_prod_type]
  refine Finset.sum_congr rfl fun c _ => Finset.sum_congr rfl fun l _ => ?_
  rw [h c c.isLt l]
  exact congrArg f (Fin.ext (by simp [col, finProdFinEquiv]; omega))

/-- Each entry of a row is a lane of a tile. -/
theorem forall_tiles (p : Fin 7168 → Prop) : (∀ c (hc : c < 56) l, p (col c hc l)) ↔ ∀ k, p k := by
  constructor
  · intro h k
    have := h (k.val / 128) (by omega) ⟨k.val % 128, by omega⟩
    rwa [show col (k.val / 128) (by omega) ⟨k.val % 128, by omega⟩ = k from Fin.ext (by simp [col]; omega)] at this
  · exact fun h c hc l => h _

section Row

variable {x : ℕ → Vec Ideal S32x128 .bf16} {w : ℕ → Vec Ideal S1x128 .f32} {r : Fin 32} {X W : Fin 7168 → EReal}
  (hx : ∀ c (hc : c < 56) l, x c (ix2 r l) = X (col c hc l)) (hw : ∀ c (hc : c < 56) l, w c (ix2 0 l) = W (col c hc l))

include hx in
/-- The reciprocal root mean square of a row, from its tiles. -/
theorem invRms_apply : invRms (squares x 55) (ix2 r 0) = Spec.inv X := by
  have h : invRms (squares x 55) (ix2 r 0) = Ideal.rsqrt ((∑ l : Fin 128, squares x 55 (ix2 r l))
      * (Named.named κ "inv_d_model" 0x39124925#32 : Ideal .f32) + Ideal.ofBits .f32 0x3727C5AC#32) := by
    pointwise [invRms]
  rw [h, ← Spec.inv_eq, IdealRules.named_const.ideal_named_scalar _ _ _ _ rfl]
  refine congrArg (fun s => Ideal.rsqrt (s * _ + _)) ?_
  simp only [squares_apply]
  exact sum_tiles (fun k => X k * X k) _ fun c hc l => by rw [hx c hc l]

include hx hw in
/-- The greatest normalised entry of a row, from its tiles. -/
theorem top_apply : top (squares x 55) (peaks x w 55) (ix2 r 0) = Spec.peak X W := by
  have h : top (squares x 55) (peaks x w 55) (ix2 r 0)
      = (Finset.univ : Finset (Fin 128)).fold max (Ideal.ofBits .f32 0xFF800000#32) (fun l => peaks x w 55 (ix2 r l))
        * invRms (squares x 55) (ix2 r 0) * Ideal.ofBits .f32 0x3B124925#32 := by
    pointwise [top]
  rw [h, invRms_apply hx, ← Spec.peak_eq]
  refine congrArg (fun s => s * _ * _) (eq_of_forall_ge_iff fun b => ?_)
  rw [Finset.fold_max_le, Finset.fold_max_le]
  refine and_congr_right fun _ => ?_
  simp only [Finset.mem_univ, true_implies, peaks_le]
  rw [← forall_tiles]
  constructor
  · intro h c hc l
    have := h l c (by omega)
    rwa [hx c hc l, hw c hc l] at this
  · intro h l c hc
    have := h c (by omega) l
    rwa [← hx c (by omega) l, ← hw c (by omega) l] at this

include hx hw in
/-- The exponent of a row, from its tiles. -/
theorem expo_apply : expo (squares x 55) (peaks x w 55) (ix2 r 0) = Spec.expo X W := by
  have h : expo (squares x 55) (peaks x w 55) (ix2 r 0)
      = Spec.expoOf (top (squares x 55) (peaks x w 55) (ix2 r 0))
        (Ideal.log (top (squares x 55) (peaks x w 55) (ix2 r 0)) * (Named.named κ "log2_e" 0x3FB8AA3B#32 : Ideal .f32)) := rfl
  rw [h, top_apply hx hw, ← Spec.expo_eq, IdealRules.named_const.ideal_named_scalar _ _ _ _ rfl]

include hx hw in
/-- The multiplier of a row, from its tiles. -/
theorem mult_apply (l : Fin 128) : mult (squares x 55) (peaks x w 55) (ix2 r l)
    = Spec.inv X * Ideal.exp2 (Ideal.ofBits .f32 0x00000000#32 - Spec.expo X W) := by
  have h : mult (squares x 55) (peaks x w 55) (ix2 r l) = invRms (squares x 55) (ix2 r 0)
      * FloatOps.exp2 (0 - expo (squares x 55) (peaks x w 55) (ix2 r 0)) := by
    pointwise [mult]
  rw [h, invRms_apply hx, expo_apply hx hw]
  pointwise
  rfl

include hx hw in
/-- The scale of a row, from its tiles. -/
theorem scale_apply (l : Fin 128) : scale (squares x 55) (peaks x w 55) (ix2 r l) = Spec.scale X W := by
  have h : scale (squares x 55) (peaks x w 55) (ix2 r l) = FloatOps.exp2 (expo (squares x 55) (peaks x w 55) (ix2 r 0)) := by
    pointwise [scale]
  rw [h, expo_apply hx hw]
  rfl

end Row

/-- A code, where the tile of products and the factor are known. -/
theorem code_apply {q m : FVec Ideal S32x128 .f32} {X W : Fin 7168 → EReal} {j : S32x128.Idx} {k : Fin 7168}
    (hq : q j = X k * W k) (hm : m j = Spec.inv X * Ideal.exp2 (Ideal.ofBits .f32 0x00000000#32 - Spec.expo X W)) :
    code q m j = Spec.code X W k := by
  have h : code q m j = Spec.clip (q j * m j) := by
    pointwise [code, Spec.clip]
  rw [h, hq, hm, Spec.code_eq]

/-- A product as stored. -/
theorem stored_apply (a : Vec Ideal S32x128 .bf16) (b : Vec Ideal S1x128 .f32) (r : Fin 32) (l : Fin 128) :
    stored a b (ix2 r l) = a (ix2 r l) * b (ix2 0 l) := by
  pointwise [stored, times, wide]

/-- The codes kept are the codes put out. -/
theorem kept_apply (q m : FVec Ideal S32x128 .f32) (r : Fin 32) (l : Fin 128) : kept q m (ix2 r l) = code q m (ix2 r l) := by
  pointwise [kept]

end Cert.Tile

end
-- ==== Proof.Pieces.lean ====
/- UNTRUSTED — a block of 256 rows stored tile by tile: tile `n` is 32 rows and 128 columns, the tiles running along the
   columns of one group of rows, then on to the next group. What a list of such stores leaves, and what a load of one
   tile then reads. -/
module

public import proofs.«01_k».proof.Proof.Tile
public import Idealize.ShloMosaic.Lib.Pipeline.Value
public import Idealize.ShloMosaic.Lib.Pipeline.ReadBack

@[expose] public section

set_option maxRecDepth 16384

noncomputable section

namespace Cert.Pieces

open Idealize.ShloMosaic Cert.KernelIdeal Cert.KernelIdeal.Gen

/-- The rectangle of tile `n`. -/
abbrev rect (n : ℕ) : Rect S256x7168 :=
  Rect.unit (s := S256x7168) ![32 * (n / 56 % 8), 128 * (n % 56)] S32x128.size
    (fun a => match a with
      | 0 => show 32 * (n / 56 % 8) + 32 ≤ 256 by omega
      | 1 => show 128 * (n % 56) + 128 ≤ 7168 by omega)

/-- Row `r` of tile `n`, in the block. -/
def rowOf (n : ℕ) (r : Fin 32) : Fin 256 := ⟨32 * (n / 56 % 8) + r.val, by omega⟩

/-- Lane `l` of tile `n`, in the block. -/
def colOf (n : ℕ) (l : Fin 128) : Fin 7168 := ⟨128 * (n % 56) + l.val, by omega⟩

/-- The first `n` tiles stored one after another, the last first, over what was stored before. -/
def pieces {e : EltTy} (p : ℕ → S32x128.Idx → Elt Ideal e) (L : List (View.Piece (Elt Ideal) S256x7168 e)) :
    ℕ → List (View.Piece (Elt Ideal) S256x7168 e)
  | 0 => L
  | n + 1 => ⟨rect n, p n⟩ :: pieces p L n

variable {e : EltTy} (p : ℕ → S32x128.Idx → Elt Ideal e) (L : List (View.Piece (Elt Ideal) S256x7168 e))
variable (G : S256x7168.Idx → Elt Ideal e)

/-- The stores stand in front of what was stored before. -/
theorem pieces_append (N : ℕ) : pieces p L N = pieces p [] N ++ L := by
  induction N with
  | zero => rfl
  | succ n ih => exact congrArg (List.cons _) ih

/-- Where an entry of a tile lies. -/
theorem idx_rect (n : ℕ) (x : S32x128.Idx) : (rect n).idx x = ix2 (rowOf n (x 0)) (colOf n (x 1)) := by
  funext a
  match a with
  | 0 => exact Fin.ext (by simp [rowOf])
  | 1 => exact Fin.ext (by simp [colOf])

/-- Stores that agree with an array are pieces of it. -/
theorem piecesOf (N : ℕ) (hp : ∀ n < N, ∀ r l, p n (ix2 r l) = G (ix2 (rowOf n r) (colOf n l))) :
    View.PiecesOf G (pieces p [] N) := by
  induction N with
  | zero => trivial
  | succ n ih =>
    refine ⟨fun (x : S32x128.Idx) => ?_, ih fun k hk => hp k (by omega)⟩
    show p n x = G ((rect n).idx x)
    have hx : x = ix2 (x 0) (x 1) := funext fun a => match a with | 0 => rfl | 1 => rfl
    exact ((congrArg (p n) hx).trans
      (hp n (by omega) (x 0) (x 1))).trans (congrArg G (idx_rect n x).symm)

/-- Each tile's store is among them. -/
theorem mem_pieces (N n : ℕ) (h : n < N) : (⟨rect n, p n⟩ : View.Piece (Elt Ideal) S256x7168 e) ∈ pieces p [] N := by
  induction N with
  | zero => omega
  | succ k ih =>
    by_cases hk : n = k
    · subst hk; exact List.mem_cons_self
    · exact List.mem_cons_of_mem _ (ih (by omega))

/-- What the tiles leave at a row and lane of a tile among them. -/
theorem canon_tile (N n : ℕ) (hn : n < N) (hp : ∀ n < N, ∀ r l, p n (ix2 r l) = G (ix2 (rowOf n r) (colOf n l)))
    (r : Fin 32) (l : Fin 128) :
    View.canon (pieces p L N) (ix2 (rowOf n r) (colOf n l)) = G (ix2 (rowOf n r) (colOf n l)) := by
  rw [pieces_append]
  refine View.canon_append_of_piecesOf G L _ (piecesOf p G N hp) _ ⟨_, mem_pieces p N n hn, ?_⟩
  exact idx_rect n (ix2 r l) ▸ (rect n).idx_mem (ix2 r l : S32x128.Idx)

/-- A load of a tile among those stored. -/
theorem readCov_tile (m : Memref sig .tc .vmem S256x7168 e) (N n : ℕ) (hn : n < N)
    (hp : ∀ n < N, ∀ r l, p n (ix2 r l) = G (ix2 (rowOf n r) (colOf n l))) (r : Fin 32) (l : Fin 128) :
    m.view.readCov (pieces p L N) (rect n).toLoadRect (ix2 r l) = G (ix2 (rowOf n r) (colOf n l)) := by
  rw [View.readCov_eq_canon']
  show View.canon (pieces p L N) ((rect n).idx (ix2 r l : S32x128.Idx)) = _
  rw [idx_rect n (ix2 r l)]
  exact canon_tile p L G N n hn hp r l

/-- Every entry of the block is in a tile. -/
theorem exists_tile (i : Fin 256) (k : Fin 7168) :
    ∃ n r l, n < 448 ∧ rowOf n r = i ∧ colOf n l = k := by
  refine ⟨56 * (i.val / 32) + k.val / 128, ⟨i.val % 32, by omega⟩, ⟨k.val % 128, by omega⟩, by omega, Fin.ext ?_, Fin.ext ?_⟩
  · show 32 * ((56 * (i.val / 32) + k.val / 128) / 56 % 8) + i.val % 32 = i.val
    omega
  · show 128 * ((56 * (i.val / 32) + k.val / 128) % 56) + k.val % 128 = k.val
    omega

/-- What all the tiles leave. -/
theorem canon_all (hp : ∀ n < 448, ∀ r l, p n (ix2 r l) = G (ix2 (rowOf n r) (colOf n l))) (i : Fin 256) (k : Fin 7168) :
    View.canon (pieces p L 448) (ix2 i k) = G (ix2 i k) := by
  obtain ⟨n, r, l, hn, rfl, rfl⟩ := exists_tile i k
  exact canon_tile p L G 448 n hn hp r l

/-- The rectangle of tile `n`'s columns in the weight row. -/
abbrev wrect (n : ℕ) : Rect S1x7168 :=
  Rect.unit (s := S1x7168) ![0, 128 * (n % 56)] S1x128.size
    (fun a => match a with
      | 0 => show 0 + 1 ≤ 1 by omega
      | 1 => show 128 * (n % 56) + 128 ≤ 7168 by omega)

/-- Where an entry of a tile of weights lies. -/
theorem idx_wrect (n : ℕ) (l : Fin 128) : (wrect n).idx (ix2 0 l : S1x128.Idx) = ix2 0 (colOf n l) := by
  funext a
  match a with
  | 0 => exact Fin.ext (by simp)
  | 1 => exact Fin.ext (by simp [colOf])

end Cert.Pieces

end
-- ==== Proof.Group.lean ====
/- UNTRUSTED — what one grid point does with its block of 256 rows: eight groups of 32 rows, each first stored as 56
   tiles of products, then read back and turned into codes, with its scales put aside. -/
module

public import proofs.«01_k».proof.Proof.Pieces
public import proofs.«01_k».proof.Proof.Gen.KernelIdeal.Skeleton

@[expose] public section

set_option maxRecDepth 16384

noncomputable section

namespace Cert.Group

open Idealize.ShloMosaic Cert.KernelIdeal Cert.KernelIdeal.Gen Cert.Pieces

/-- The products of the block, tile by tile. -/
def prods (x : ℕ → Vec Ideal S32x128 .bf16) (w : ℕ → Vec Ideal S1x128 .f32) : ℕ → List (View.Piece (Elt Ideal) S256x7168 .f32) :=
  pieces (fun n => Tile.stored (x n) (w n)) []

/-- The factor of group `g`. -/
def factor (x : ℕ → Vec Ideal S32x128 .bf16) (w : ℕ → Vec Ideal S1x128 .f32) (g : ℕ) : FVec Ideal S32x128 .f32 :=
  Tile.mult (Tile.squares (fun k => x (56 * g + k)) 55) (Tile.peaks (fun k => x (56 * g + k)) w 55)

/-- The scales of group `g`. -/
def scales (x : ℕ → Vec Ideal S32x128 .bf16) (w : ℕ → Vec Ideal S1x128 .f32) (g : ℕ) : FVec Ideal S32x128 .f32 :=
  Tile.scale (Tile.squares (fun k => x (56 * g + k)) 55) (Tile.peaks (fun k => x (56 * g + k)) w 55)

/-- The codes of tile `n`, from the products read back and the factor of its group. -/
def codes (m : Memref sig .tc .vmem S256x7168 .f32) (Q : ℕ → List (View.Piece (Elt Ideal) S256x7168 .f32))
    (M : ℕ → FVec Ideal S32x128 .f32) (n : ℕ) : FVec Ideal S32x128 .fp8e4m3 :=
  Tile.code (m.view.readCov (Q (n / 56)) (rect n).toLoadRect) (M (n / 56))

/-- The codes of tile `n` as they are kept for the next block. -/
def kept (m : Memref sig .tc .vmem S256x7168 .f32) (Q : ℕ → List (View.Piece (Elt Ideal) S256x7168 .f32))
    (M : ℕ → FVec Ideal S32x128 .f32) (n : ℕ) : FVec Ideal S32x128 .fp8e4m3 :=
  Tile.kept (m.view.readCov (Q (n / 56)) (rect n).toLoadRect) (M (n / 56))

variable {x : ℕ → Vec Ideal S32x128 .bf16} {w : ℕ → Vec Ideal S1x128 .f32}
variable {X : Fin 256 → Fin 7168 → EReal} {W : Fin 7168 → EReal}
  (hx : ∀ n r l, x n (ix2 r l) = X (rowOf n r) (colOf n l)) (hw : ∀ n l, w n (ix2 0 l) = W (colOf n l))

include hx in
/-- A tile of a group reads the group's rows. -/
theorem x_group (g : ℕ) (hg : g < 8) (r : Fin 32) (k : ℕ) (hk : k < 56) (l : Fin 128) :
    x (56 * g + k) (ix2 r l) = X (rowOf (56 * g) r) (Tile.col k hk l) := by
  rw [hx]
  have h1 : rowOf (56 * g + k) r = rowOf (56 * g) r := Fin.ext (by simp only [rowOf]; omega)
  have h2 : colOf (56 * g + k) l = Tile.col k hk l := Fin.ext (by simp only [colOf, Tile.col]; omega)
  rw [h1, h2]

include hw in
/-- A tile's weights are the weights of its columns. -/
theorem w_group (k : ℕ) (hk : k < 56) (l : Fin 128) : w k (ix2 0 l) = W (Tile.col k hk l) := by
  rw [hw]
  have h2 : colOf k l = Tile.col k hk l := Fin.ext (by simp only [colOf, Tile.col]; omega)
  rw [h2]

include hx hw in
/-- A group's multiplier is the one of each of its rows. -/
theorem factor_apply (g : ℕ) (hg : g < 8) (r : Fin 32) (l : Fin 128) : factor x w g (ix2 r l)
    = Spec.inv (X (rowOf (56 * g) r))
      * Ideal.exp2 (Ideal.ofBits .f32 0x00000000#32 - Spec.expo (X (rowOf (56 * g) r)) W) :=
  Tile.mult_apply (fun k hk l => x_group hx g hg r k hk l) (fun k hk l => w_group hw k hk l) l

include hx hw in
/-- A group's scales are those of its rows. -/
theorem scales_apply (g : ℕ) (hg : g < 8) (r : Fin 32) (l : Fin 128) :
    scales x w g (ix2 r l) = Spec.scale (X (rowOf (56 * g) r)) W :=
  Tile.scale_apply (fun k hk l => x_group hx g hg r k hk l) (fun k hk l => w_group hw k hk l) l

include hx hw in
/-- The codes of a tile are those of its rows and columns. -/
theorem codes_apply (m : Memref sig .tc .vmem S256x7168 .f32) {Q : ℕ → List (View.Piece (Elt Ideal) S256x7168 .f32)}
    {M : ℕ → FVec Ideal S32x128 .f32} (hQ : ∀ g < 8, Q g = prods x w (56 * (g + 1))) (hM : ∀ g < 8, M g = factor x w g)
    (n : ℕ) (hn : n < 448) (r : Fin 32) (l : Fin 128) :
    codes m Q M n (ix2 r l) = Spec.code (X (rowOf n r)) W (colOf n l) := by
  have hg : n / 56 < 8 := by omega
  have hr : rowOf (56 * (n / 56)) r = rowOf n r := Fin.ext (by simp only [rowOf]; omega)
  refine Tile.code_apply ?_ ?_
  · rw [hQ _ hg]
    exact readCov_tile (fun n => Tile.stored (x n) (w n)) [] (fun y => X (y 0) (y 1) * W (y 1)) m (56 * (n / 56 + 1)) n (by omega)
      (fun n _ r l => (Tile.stored_apply _ _ r l).trans (congrArg₂ (· * ·) (hx n r l) (hw n l))) r l
  · rw [hM _ hg, factor_apply hx hw _ hg, hr]

include hx hw in
/-- So are the codes kept for the next point. -/
theorem kept_apply (m : Memref sig .tc .vmem S256x7168 .f32) {Q : ℕ → List (View.Piece (Elt Ideal) S256x7168 .f32)}
    {M : ℕ → FVec Ideal S32x128 .f32} (hQ : ∀ g < 8, Q g = prods x w (56 * (g + 1))) (hM : ∀ g < 8, M g = factor x w g)
    (n : ℕ) (hn : n < 448) (r : Fin 32) (l : Fin 128) :
    kept m Q M n (ix2 r l) = Spec.code (X (rowOf n r)) W (colOf n l) :=
  (Tile.kept_apply _ _ r l).trans (codes_apply hx hw m hQ hM n hn r l)

include hx hw in
/-- The block of codes stored, whatever was stored before. -/
theorem codes_block (m : Memref sig .tc .vmem S256x7168 .f32) {Q : ℕ → List (View.Piece (Elt Ideal) S256x7168 .f32)}
    {M : ℕ → FVec Ideal S32x128 .f32} (hQ : ∀ g < 8, Q g = prods x w (56 * (g + 1))) (hM : ∀ g < 8, M g = factor x w g)
    (L : List (View.Piece (Elt Ideal) S256x7168 .fp8e4m3)) (i : Fin 256) (k : Fin 7168) :
    View.canon (pieces (codes m Q M) L 448) (ix2 i k) = Spec.code (X i) W k :=
  canon_all _ L (fun y => Spec.code (X (y 0)) W (y 1)) (fun n hn r l => codes_apply hx hw m hQ hM n hn r l) i k

include hx hw in
/-- The block of codes kept, whatever was stored before. -/
theorem kept_block (m : Memref sig .tc .vmem S256x7168 .f32) {Q : ℕ → List (View.Piece (Elt Ideal) S256x7168 .f32)}
    {M : ℕ → FVec Ideal S32x128 .f32} (hQ : ∀ g < 8, Q g = prods x w (56 * (g + 1))) (hM : ∀ g < 8, M g = factor x w g)
    (L : List (View.Piece (Elt Ideal) S256x7168 .fp8e4m3)) (i : Fin 256) (k : Fin 7168) :
    View.canon (pieces (kept m Q M) L 448) (ix2 i k) = Spec.code (X i) W k :=
  canon_all _ L (fun y => Spec.code (X (y 0)) W (y 1)) (fun n hn r l => kept_apply hx hw m hQ hM n hn r l) i k

/-! ### The scales, eight pieces of 32 rows -/

/-- The rectangle of group `g`'s scales. -/
abbrev srect (g : ℕ) : Rect S256x128 :=
  Rect.unit (s := S256x128) ![32 * (g % 8), 0] S32x128.size
    (fun a => match a with
      | 0 => show 32 * (g % 8) + 32 ≤ 256 by omega
      | 1 => show 0 + 128 ≤ 128 by omega)

/-- The first `n` groups' scales stored one after another, the last first, over what was stored before. -/
def spieces (p : ℕ → FVec Ideal S32x128 .f32) (L : List (View.Piece (Elt Ideal) S256x128 .f32)) :
    ℕ → List (View.Piece (Elt Ideal) S256x128 .f32)
  | 0 => L
  | n + 1 => ⟨srect n, p n⟩ :: spieces p L n

/-- The stores of scales stand in front of what was stored before. -/
theorem spieces_append (p : ℕ → FVec Ideal S32x128 .f32) (L : List (View.Piece (Elt Ideal) S256x128 .f32)) (N : ℕ) :
    spieces p L N = spieces p [] N ++ L := by
  induction N with
  | zero => rfl
  | succ n ih => exact congrArg (List.cons _) ih

/-- Each group's store is among them. -/
theorem mem_spieces (p : ℕ → FVec Ideal S32x128 .f32) (N n : ℕ) (h : n < N) :
    (⟨srect n, p n⟩ : View.Piece (Elt Ideal) S256x128 .f32) ∈ spieces p [] N := by
  induction N with
  | zero => omega
  | succ k ih =>
    by_cases hk : n = k
    · subst hk; exact List.mem_cons_self
    · exact List.mem_cons_of_mem _ (ih (by omega))

/-- Where an entry of a group's store lies. -/
theorem idx_srect (g : ℕ) (y : S32x128.Idx) : (srect g).idx y = ix2 (rowOf (56 * g) (y 0)) (y 1) := by
  funext a
  match a with
  | 0 => exact Fin.ext (by simp [rowOf])
  | 1 => exact Fin.ext (by simp)

/-- A row of a group lies in the group's store. -/
theorem mem_srect (g : ℕ) (r : Fin 32) (l : Fin 128) : ix2 (rowOf (56 * g) r) l ∈ (srect g).set := by
  have h := (srect g).idx_mem (ix2 r l : S32x128.Idx)
  rw [idx_srect g (ix2 r l)] at h
  exact h

/-- Every row belongs to one of the eight groups. -/
theorem exists_group (i : Fin 256) : ∃ (g : ℕ) (r : Fin 32), g < 8 ∧ rowOf (56 * g) r = i := by
  refine ⟨i.val / 32, ⟨i.val % 32, by omega⟩, by omega, Fin.ext ?_⟩
  show 32 * (56 * (i.val / 32) / 56 % 8) + i.val % 32 = i.val
  omega

/-- Stores that agree with an array are pieces of it. -/
theorem spiecesOf (p : ℕ → FVec Ideal S32x128 .f32) (G : S256x128.Idx → Elt Ideal .f32) (N : ℕ)
    (hp : ∀ g < N, ∀ r l, p g (ix2 r l) = G (ix2 (rowOf (56 * g) r) l)) : View.PiecesOf G (spieces p [] N) := by
  induction N with
  | zero => trivial
  | succ n ih =>
    refine ⟨fun (y : S32x128.Idx) => ?_, ih fun k hk => hp k (by omega)⟩
    show p n y = G ((srect n).idx y)
    have hy : y = ix2 (y 0) (y 1) := funext fun a => match a with | 0 => rfl | 1 => rfl
    exact ((congrArg (p n) hy).trans (hp n (by omega) (y 0) (y 1))).trans (congrArg G (idx_srect n y).symm)

/-- What the stores of scales leave is that array. -/
theorem scanon (p : ℕ → FVec Ideal S32x128 .f32) (L : List (View.Piece (Elt Ideal) S256x128 .f32))
    (G : S256x128.Idx → Elt Ideal .f32) (N : ℕ) (hp : View.PiecesOf G (spieces p [] N)) (g : ℕ) (hg : g < N) (r : Fin 32)
    (l : Fin 128) : View.canon (spieces p L N) (ix2 (rowOf (56 * g) r) l) = G (ix2 (rowOf (56 * g) r) l) := by
  rw [spieces_append]
  exact View.canon_append_of_piecesOf G L _ hp _ ⟨_, mem_spieces p N g hg, mem_srect g r l⟩

include hx hw in
/-- The block of scales stored, whatever was stored before: each row's scale at every lane. -/
theorem scales_block (L : List (View.Piece (Elt Ideal) S256x128 .f32)) (i : Fin 256) (l : Fin 128) :
    View.canon (spieces (scales x w) L 8) (ix2 i l) = Spec.scale (X i) W := by
  obtain ⟨g, r, hg, rfl⟩ := exists_group i
  exact scanon (scales x w) L (fun y : S256x128.Idx => (Spec.scale (X (y 0)) W : Elt Ideal .f32)) 8
    (spiecesOf _ _ 8 fun g hg r l => scales_apply hx hw g hg r l) g hg r l

/-- The row of scales put out: the first lane of each row's. -/
theorem out_scales_apply (v : Vec Ideal S256x128 .f32) (i : Fin 256) :
    k0_pay1 (k0_pay2740 v) (ix3 0 0 i) = v (ix2 i 0) := by
  pointwise [k0_pay1, k0_pay2740]

end Cert.Group

end
-- ==== Proof.First.lean ====
/- UNTRUSTED — the stores of the first grid point, which reads the weight row it has just widened and stored: the products,
   the factors, the scales and the codes are the lists of tiles that `Group` speaks about. -/
module

public import proofs.«01_k».proof.Proof.Group
public import Idealize.ShloMosaic.Lib.WholeRead
public import proofs.«01_k».proof.Proof.Gen.KernelIdeal.Value

@[expose] public section

set_option maxRecDepth 16384

noncomputable section

namespace Cert.First

open Idealize.ShloMosaic Cert.KernelIdeal Cert.KernelIdeal.Gen Cert.Pieces Cert.Group

/-- The tiles of the activations as they are loaded. -/
def tiles (arg1 : Memref sig .tc .vmem S256x7168 .bf16) (harg1 : arg1.IsWhole) (x0 : Vec Ideal S256x7168 .bf16) (n : ℕ) :
    Vec Ideal S32x128 .bf16 :=
  View.readAt (Elt Ideal) arg1.view (rect n).toLoadRect (harg1.unread x0)

/-- The tiles of the weight row as they are loaded. -/
def weights (c : Dev nD) (arg2 : Memref sig .tc .vmem S1x7168 .bf16) (harg2 : arg2.IsWhole) (arg12 : Memref sig .tc .vmem S1x7168 .f32) (x1 : Vec Ideal S1x7168 .bf16) (n : ℕ) :
    Vec Ideal S1x128 .f32 :=
  arg12.view.readCov (kernelRun0_A.sl.HS0_1 (F := Ideal) c arg2 harg2 x1) (wrect n).toLoadRect

/-- A tile of the activations, at an entry. -/
theorem tiles_apply (arg1 : Memref sig .tc .vmem S256x7168 .bf16) (harg1 : arg1.IsWhole) (x0 : Vec Ideal S256x7168 .bf16)
    (n : ℕ) (r : Fin 32) (l : Fin 128) : tiles arg1 harg1 x0 n (ix2 r l) = x0 (ix2 (rowOf n r) (colOf n l)) :=
  (Memref.IsWhole.readAt_unread harg1 x0 (rect n).toLoadRect (ix2 r l : S32x128.Idx)).trans (congrArg x0 (idx_rect n (ix2 r l)))

/-- The weight row kept is the weight row, widened. -/
theorem pay2_apply (v : Vec Ideal S1x7168 .bf16) (k : Fin 7168) : k0_pay2 v (ix2 0 k) = v (ix2 0 k) := by
  pointwise [k0_pay2]

/-- The weight row stored, at an entry. -/
theorem row_apply (c : Dev nD) (arg2 : Memref sig .tc .vmem S1x7168 .bf16) (harg2 : arg2.IsWhole) (x1 : Vec Ideal S1x7168 .bf16)
    (k : Fin 7168) : View.canon (kernelRun0_A.sl.HS0_1 (F := Ideal) c arg2 harg2 x1) (ix2 0 k) = x1 (ix2 0 k) := by
  unfold kernelRun0_A.sl.HS0_1
  have hz : (![0, 0] : Fin S1x7168.rank → ℕ) = fun _ => 0 := funext fun (a : Fin 2) => match a with | 0 => rfl | 1 => rfl
  rw [View.canon_unit_zero hz]
  refine (pay2_apply _ k).trans ((Memref.IsWhole.readAt_unread harg2 x1 _ _).trans (congrArg x1 ?_))
  funext a
  match a with
  | 0 => exact Fin.ext (by simp)
  | 1 => exact Fin.ext (by simp)

/-- A tile of the weight row, at an entry. -/
theorem weights_apply (c : Dev nD) (arg2 : Memref sig .tc .vmem S1x7168 .bf16) (harg2 : arg2.IsWhole) (arg12 : Memref sig .tc .vmem S1x7168 .f32) (x1 : Vec Ideal S1x7168 .bf16)
    (n : ℕ) (l : Fin 128) : weights c arg2 harg2 arg12 x1 n (ix2 0 l) = x1 (ix2 0 (colOf n l)) := by
  unfold weights
  rw [View.readCov_eq_canon']
  exact (congrArg _ (idx_wrect n l)).trans (row_apply c arg2 harg2 x1 (colOf n l))

section Words

variable (c : Dev nD) (i : grid0.Coords) (arg1 : Memref sig .tc .vmem S256x7168 .bf16) (arg2 : Memref sig .tc .vmem S1x7168 .bf16)
  (arg3 : Memref sig .tc .vmem S7168x1152 .fp8e4m3) (arg4 : Memref sig .tc .vmem S1x1152 .f32)
  (arg5 : Memref sig .tc .vmem S1x1x256 .i32) (arg6 : Memref sig .tc .vmem S1x128 .f32)
  (arg7 : Memref sig .tc .vmem S7x256x128 .bf16) (arg8 : Memref sig .tc .vmem S1x256x128 .bf16)
  (arg9 : Memref sig .tc .vmem S1x256x128 .bf16) (arg10 : Memref sig .tc .vmem S256x7168 .fp8e4m3)
  (arg11 : Memref sig .tc .vmem S1x1x256 .f32) (arg12 : Memref sig .tc .vmem S1x7168 .f32)
  (arg13 : Memref sig .tc .vmem S256x7168 .f32) (arg14 : Memref sig .tc .vmem S256x7168 .fp8e4m3)
  (arg15 : Memref sig .tc .vmem S256x128 .f32)
  (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole)
  (hc0 : cond0_0 i)
  (x0 : Vec Ideal S256x7168 .bf16) (x1 : Vec Ideal S1x7168 .bf16) (x2 : Vec Ideal S7168x1152 .fp8e4m3)
  (x3 : Vec Ideal S1x1152 .f32) (x4 : Vec Ideal S1x1x256 .i32) (x5 : Vec Ideal S1x128 .f32)

/-- The lists of products stored when group `g` is read back. -/
def Q (g : ℕ) : List (View.Piece (Elt Ideal) S256x7168 .f32) :=
  [kernelRun0_A.sl.HS1_56 c arg1 harg1 arg2 harg2 arg12 x0 x1,
    kernelRun0_A.sl.HS1_112 c arg1 harg1 arg2 harg2 arg12 x0 x1,
    kernelRun0_A.sl.HS1_168 c arg1 harg1 arg2 harg2 arg12 x0 x1,
    kernelRun0_A.sl.HS1_224 c arg1 harg1 arg2 harg2 arg12 x0 x1,
    kernelRun0_A.sl.HS1_280 c arg1 harg1 arg2 harg2 arg12 x0 x1,
    kernelRun0_A.sl.HS1_336 c arg1 harg1 arg2 harg2 arg12 x0 x1,
    kernelRun0_A.sl.HS1_392 c arg1 harg1 arg2 harg2 arg12 x0 x1,
    kernelRun0_A.sl.HS1_448 c arg1 harg1 arg2 harg2 arg12 x0 x1].getD g []

/-- The factors as they are computed. -/
def M (g : ℕ) : FVec Ideal S32x128 .f32 :=
  [kernelRun0_A.sl.r_3 c arg1 harg1 arg2 harg2 arg12 x0 x1,
    kernelRun0_A.sl.r_6 c arg1 harg1 arg2 harg2 arg12 x0 x1,
    kernelRun0_A.sl.v3690 c arg1 harg1 arg2 harg2 arg12 x0 x1,
    kernelRun0_A.sl.v5066 c arg1 harg1 arg2 harg2 arg12 x0 x1,
    kernelRun0_A.sl.v6442 c arg1 harg1 arg2 harg2 arg12 x0 x1,
    kernelRun0_A.sl.v7818 c arg1 harg1 arg2 harg2 arg12 x0 x1,
    kernelRun0_A.sl.v9194 c arg1 harg1 arg2 harg2 arg12 x0 x1,
    kernelRun0_A.sl.v10570 c arg1 harg1 arg2 harg2 arg12 x0 x1].getD g (fun _ => 0)

/-- After 1 group of rows the products stored are those of the first 56 tiles. -/
theorem prods_0 : kernelRun0_A.sl.HS1_56 c arg1 harg1 arg2 harg2 arg12 x0 x1
    = prods (tiles arg1 harg1 x0) (weights c arg2 harg2 arg12 x1) 56 := by sl_kernel_rfl

/-- After 2 groups of rows the products stored are those of the first 112 tiles. -/
theorem prods_1 : kernelRun0_A.sl.HS1_112 c arg1 harg1 arg2 harg2 arg12 x0 x1
    = prods (tiles arg1 harg1 x0) (weights c arg2 harg2 arg12 x1) 112 := by sl_kernel_rfl

/-- After 3 groups of rows the products stored are those of the first 168 tiles. -/
theorem prods_2 : kernelRun0_A.sl.HS1_168 c arg1 harg1 arg2 harg2 arg12 x0 x1
    = prods (tiles arg1 harg1 x0) (weights c arg2 harg2 arg12 x1) 168 := by sl_kernel_rfl

/-- After 4 groups of rows the products stored are those of the first 224 tiles. -/
theorem prods_3 : kernelRun0_A.sl.HS1_224 c arg1 harg1 arg2 harg2 arg12 x0 x1
    = prods (tiles arg1 harg1 x0) (weights c arg2 harg2 arg12 x1) 224 := by sl_kernel_rfl

/-- After 5 groups of rows the products stored are those of the first 280 tiles. -/
theorem prods_4 : kernelRun0_A.sl.HS1_280 c arg1 harg1 arg2 harg2 arg12 x0 x1
    = prods (tiles arg1 harg1 x0) (weights c arg2 harg2 arg12 x1) 280 := by sl_kernel_rfl

/-- After 6 groups of rows the products stored are those of the first 336 tiles. -/
theorem prods_5 : kernelRun0_A.sl.HS1_336 c arg1 harg1 arg2 harg2 arg12 x0 x1
    = prods (tiles arg1 harg1 x0) (weights c arg2 harg2 arg12 x1) 336 := by sl_kernel_rfl

/-- After 7 groups of rows the products stored are those of the first 392 tiles. -/
theorem prods_6 : kernelRun0_A.sl.HS1_392 c arg1 harg1 arg2 harg2 arg12 x0 x1
    = prods (tiles arg1 harg1 x0) (weights c arg2 harg2 arg12 x1) 392 := by sl_kernel_rfl

/-- After 8 groups of rows the products stored are those of the first 448 tiles. -/
theorem prods_7 : kernelRun0_A.sl.HS1_448 c arg1 harg1 arg2 harg2 arg12 x0 x1
    = prods (tiles arg1 harg1 x0) (weights c arg2 harg2 arg12 x1) 448 := by sl_kernel_rfl

/-- Group 0's multiplier. -/
theorem factor_0 : kernelRun0_A.sl.r_3 c arg1 harg1 arg2 harg2 arg12 x0 x1
    = factor (tiles arg1 harg1 x0) (weights c arg2 harg2 arg12 x1) 0 := by sl_kernel_rfl

/-- Group 1's multiplier. -/
theorem factor_1 : kernelRun0_A.sl.r_6 c arg1 harg1 arg2 harg2 arg12 x0 x1
    = factor (tiles arg1 harg1 x0) (weights c arg2 harg2 arg12 x1) 1 := by sl_kernel_rfl

/-- Group 2's multiplier. -/
theorem factor_2 : kernelRun0_A.sl.v3690 c arg1 harg1 arg2 harg2 arg12 x0 x1
    = factor (tiles arg1 harg1 x0) (weights c arg2 harg2 arg12 x1) 2 := by sl_kernel_rfl

/-- Group 3's multiplier. -/
theorem factor_3 : kernelRun0_A.sl.v5066 c arg1 harg1 arg2 harg2 arg12 x0 x1
    = factor (tiles arg1 harg1 x0) (weights c arg2 harg2 arg12 x1) 3 := by sl_kernel_rfl

/-- Group 4's multiplier. -/
theorem factor_4 : kernelRun0_A.sl.v6442 c arg1 harg1 arg2 harg2 arg12 x0 x1
    = factor (tiles arg1 harg1 x0) (weights c arg2 harg2 arg12 x1) 4 := by sl_kernel_rfl

/-- Group 5's multiplier. -/
theorem factor_5 : kernelRun0_A.sl.v7818 c arg1 harg1 arg2 harg2 arg12 x0 x1
    = factor (tiles arg1 harg1 x0) (weights c arg2 harg2 arg12 x1) 5 := by sl_kernel_rfl

/-- Group 6's multiplier. -/
theorem factor_6 : kernelRun0_A.sl.v9194 c arg1 harg1 arg2 harg2 arg12 x0 x1
    = factor (tiles arg1 harg1 x0) (weights c arg2 harg2 arg12 x1) 6 := by sl_kernel_rfl

/-- Group 7's multiplier. -/
theorem factor_7 : kernelRun0_A.sl.v10570 c arg1 harg1 arg2 harg2 arg12 x0 x1
    = factor (tiles arg1 harg1 x0) (weights c arg2 harg2 arg12 x1) 7 := by sl_kernel_rfl

/-- The products stored before a group's codes are written are those of every tile up to that group. -/
theorem Q_eq (g : ℕ) (hg : g < 8) : Q c arg1 arg2 arg12 harg1 harg2 x0 x1 g = prods (tiles arg1 harg1 x0) (weights c arg2 harg2 arg12 x1) (56 * (g + 1)) := by
  interval_cases g
  · exact prods_0 c arg1 arg2 arg12 harg1 harg2 x0 x1
  · exact prods_1 c arg1 arg2 arg12 harg1 harg2 x0 x1
  · exact prods_2 c arg1 arg2 arg12 harg1 harg2 x0 x1
  · exact prods_3 c arg1 arg2 arg12 harg1 harg2 x0 x1
  · exact prods_4 c arg1 arg2 arg12 harg1 harg2 x0 x1
  · exact prods_5 c arg1 arg2 arg12 harg1 harg2 x0 x1
  · exact prods_6 c arg1 arg2 arg12 harg1 harg2 x0 x1
  · exact prods_7 c arg1 arg2 arg12 harg1 harg2 x0 x1

/-- A group's multiplier, for every group at once. -/
theorem M_eq (g : ℕ) (hg : g < 8) : M c arg1 arg2 arg12 harg1 harg2 x0 x1 g = factor (tiles arg1 harg1 x0) (weights c arg2 harg2 arg12 x1) g := by
  interval_cases g
  · exact factor_0 c arg1 arg2 arg12 harg1 harg2 x0 x1
  · exact factor_1 c arg1 arg2 arg12 harg1 harg2 x0 x1
  · exact factor_2 c arg1 arg2 arg12 harg1 harg2 x0 x1
  · exact factor_3 c arg1 arg2 arg12 harg1 harg2 x0 x1
  · exact factor_4 c arg1 arg2 arg12 harg1 harg2 x0 x1
  · exact factor_5 c arg1 arg2 arg12 harg1 harg2 x0 x1
  · exact factor_6 c arg1 arg2 arg12 harg1 harg2 x0 x1
  · exact factor_7 c arg1 arg2 arg12 harg1 harg2 x0 x1

/-- The codes put out. -/
theorem codes_eq : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.1
    = pieces (codes arg13 (Q c arg1 arg2 arg12 harg1 harg2 x0 x1) (M c arg1 arg2 arg12 harg1 harg2 x0 x1)) [] 448 := by sl_kernel_rfl

/-- The codes kept. -/
theorem kept_eq : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.2.2.1
    = pieces (kept arg13 (Q c arg1 arg2 arg12 harg1 harg2 x0 x1) (M c arg1 arg2 arg12 harg1 harg2 x0 x1)) (kernelRun0_A.sl.HS2_1 (F := Ideal)) 448 := by sl_kernel_rfl

/-- The scales kept. -/
theorem scales_eq : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.2.2.2.1
    = spieces (scales (tiles arg1 harg1 x0) (weights c arg2 harg2 arg12 x1)) (kernelRun0_A.sl.HS3_1 (F := Ideal)) 8 := by sl_kernel_rfl

/-- The scales put out. -/
theorem out_scales_eq : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.1
    = [⟨Rect.unit (s := S1x1x256) ![0, 0, 0] ![1, 1, 256] inb_S1x1x256_S1x1x256_0_0_0,
        k0_pay1 (k0_pay2740 (arg15.view.readCov (spieces (scales (tiles arg1 harg1 x0) (weights c arg2 harg2 arg12 x1)) (kernelRun0_A.sl.HS3_1 (F := Ideal)) 8)
          (Rect.unit (s := S256x128) ![0, 0] S256x128.size inb_S256x128_S256x128_0_0).toLoadRect))⟩] := by sl_kernel_rfl

end Words

end Cert.First

end
-- ==== Proof.Later.lean ====
/- UNTRUSTED — the stores of any later grid point, which reads the weight row kept from the point before: the products,
   the factors, the scales and the codes are the lists of tiles that `Group` speaks about. -/
module

public import proofs.«01_k».proof.Proof.Group
public import Idealize.ShloMosaic.Lib.WholeRead
public import proofs.«01_k».proof.Proof.Gen.KernelIdeal.Value

@[expose] public section

set_option maxRecDepth 16384

noncomputable section

namespace Cert.Later

open Idealize.ShloMosaic Cert.KernelIdeal Cert.KernelIdeal.Gen Cert.Pieces Cert.Group

/-- The tiles of the activations as they are loaded. -/
def tiles (arg1 : Memref sig .tc .vmem S256x7168 .bf16) (harg1 : arg1.IsWhole) (x0 : Vec Ideal S256x7168 .bf16) (n : ℕ) :
    Vec Ideal S32x128 .bf16 :=
  View.readAt (Elt Ideal) arg1.view (rect n).toLoadRect (harg1.unread x0)

/-- The tiles of the weight row as they are loaded. -/
def weights (arg12 : Memref sig .tc .vmem S1x7168 .f32) (harg12 : arg12.IsWhole) (xs0 : Vec Ideal S1x7168 .f32) (n : ℕ) :
    Vec Ideal S1x128 .f32 :=
  View.readAt (Elt Ideal) arg12.view
  (wrect n).toLoadRect (harg12.unread xs0)

/-- A tile of the activations, at an entry. -/
theorem tiles_apply (arg1 : Memref sig .tc .vmem S256x7168 .bf16) (harg1 : arg1.IsWhole) (x0 : Vec Ideal S256x7168 .bf16)
    (n : ℕ) (r : Fin 32) (l : Fin 128) : tiles arg1 harg1 x0 n (ix2 r l) = x0 (ix2 (rowOf n r) (colOf n l)) :=
  (Memref.IsWhole.readAt_unread harg1 x0 (rect n).toLoadRect (ix2 r l : S32x128.Idx)).trans (congrArg x0 (idx_rect n (ix2 r l)))

/-- A tile of the weight row, at an entry. -/
theorem weights_apply (arg12 : Memref sig .tc .vmem S1x7168 .f32) (harg12 : arg12.IsWhole) (xs0 : Vec Ideal S1x7168 .f32)
    (n : ℕ) (l : Fin 128) : weights arg12 harg12 xs0 n (ix2 0 l) = xs0 (ix2 0 (colOf n l)) :=
  (Memref.IsWhole.readAt_unread harg12 xs0 (wrect n).toLoadRect (ix2 0 l : S1x128.Idx)).trans (congrArg xs0 (idx_wrect n l))

section Words

variable (c : Dev nD) (i : grid0.Coords) (arg1 : Memref sig .tc .vmem S256x7168 .bf16) (arg2 : Memref sig .tc .vmem S1x7168 .bf16)
  (arg3 : Memref sig .tc .vmem S7168x1152 .fp8e4m3) (arg4 : Memref sig .tc .vmem S1x1152 .f32)
  (arg5 : Memref sig .tc .vmem S1x1x256 .i32) (arg6 : Memref sig .tc .vmem S1x128 .f32)
  (arg7 : Memref sig .tc .vmem S7x256x128 .bf16) (arg8 : Memref sig .tc .vmem S1x256x128 .bf16)
  (arg9 : Memref sig .tc .vmem S1x256x128 .bf16) (arg10 : Memref sig .tc .vmem S256x7168 .fp8e4m3)
  (arg11 : Memref sig .tc .vmem S1x1x256 .f32) (arg12 : Memref sig .tc .vmem S1x7168 .f32)
  (arg13 : Memref sig .tc .vmem S256x7168 .f32) (arg14 : Memref sig .tc .vmem S256x7168 .fp8e4m3)
  (arg15 : Memref sig .tc .vmem S256x128 .f32)
  (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole)
  (hc0 : ¬cond0_0 i)
  (x0 : Vec Ideal S256x7168 .bf16) (x1 : Vec Ideal S1x7168 .bf16) (x2 : Vec Ideal S7168x1152 .fp8e4m3)
  (x3 : Vec Ideal S1x1152 .f32) (x4 : Vec Ideal S1x1x256 .i32) (x5 : Vec Ideal S1x128 .f32)
  (xs0 : Vec Ideal S1x7168 .f32) (xs2 : Vec Ideal S256x7168 .fp8e4m3) (xs3 : Vec Ideal S256x128 .f32)

/-- The lists of products stored when group `g` is read back. -/
def Q (g : ℕ) : List (View.Piece (Elt Ideal) S256x7168 .f32) :=
  [kernelRun0_B.sl.HS1_56 c arg1 harg1 arg12 harg12 x0 xs0,
    kernelRun0_B.sl.HS1_112 c arg1 harg1 arg12 harg12 x0 xs0,
    kernelRun0_B.sl.HS1_168 c arg1 harg1 arg12 harg12 x0 xs0,
    kernelRun0_B.sl.HS1_224 c arg1 harg1 arg12 harg12 x0 xs0,
    kernelRun0_B.sl.HS1_280 c arg1 harg1 arg12 harg12 x0 xs0,
    kernelRun0_B.sl.HS1_336 c arg1 harg1 arg12 harg12 x0 xs0,
    kernelRun0_B.sl.HS1_392 c arg1 harg1 arg12 harg12 x0 xs0,
    kernelRun0_B.sl.HS1_448 c arg1 harg1 arg12 harg12 x0 xs0].getD g []

/-- The factors as they are computed. -/
def M (g : ℕ) : FVec Ideal S32x128 .f32 :=
  [kernelRun0_B.sl.r_4 c arg1 harg1 arg12 harg12 x0 xs0,
    kernelRun0_B.sl.r_7 c arg1 harg1 arg12 harg12 x0 xs0,
    kernelRun0_B.sl.v3690 c arg1 harg1 arg12 harg12 x0 xs0,
    kernelRun0_B.sl.v5066 c arg1 harg1 arg12 harg12 x0 xs0,
    kernelRun0_B.sl.v6442 c arg1 harg1 arg12 harg12 x0 xs0,
    kernelRun0_B.sl.v7818 c arg1 harg1 arg12 harg12 x0 xs0,
    kernelRun0_B.sl.v9194 c arg1 harg1 arg12 harg12 x0 xs0,
    kernelRun0_B.sl.v10570 c arg1 harg1 arg12 harg12 x0 xs0].getD g (fun _ => 0)

/-- After 1 group of rows the products stored are those of the first 56 tiles. -/
theorem prods_0 : kernelRun0_B.sl.HS1_56 c arg1 harg1 arg12 harg12 x0 xs0
    = prods (tiles arg1 harg1 x0) (weights arg12 harg12 xs0) 56 := by sl_kernel_rfl

/-- After 2 groups of rows the products stored are those of the first 112 tiles. -/
theorem prods_1 : kernelRun0_B.sl.HS1_112 c arg1 harg1 arg12 harg12 x0 xs0
    = prods (tiles arg1 harg1 x0) (weights arg12 harg12 xs0) 112 := by sl_kernel_rfl

/-- After 3 groups of rows the products stored are those of the first 168 tiles. -/
theorem prods_2 : kernelRun0_B.sl.HS1_168 c arg1 harg1 arg12 harg12 x0 xs0
    = prods (tiles arg1 harg1 x0) (weights arg12 harg12 xs0) 168 := by sl_kernel_rfl

/-- After 4 groups of rows the products stored are those of the first 224 tiles. -/
theorem prods_3 : kernelRun0_B.sl.HS1_224 c arg1 harg1 arg12 harg12 x0 xs0
    = prods (tiles arg1 harg1 x0) (weights arg12 harg12 xs0) 224 := by sl_kernel_rfl

/-- After 5 groups of rows the products stored are those of the first 280 tiles. -/
theorem prods_4 : kernelRun0_B.sl.HS1_280 c arg1 harg1 arg12 harg12 x0 xs0
    = prods (tiles arg1 harg1 x0) (weights arg12 harg12 xs0) 280 := by sl_kernel_rfl

/-- After 6 groups of rows the products stored are those of the first 336 tiles. -/
theorem prods_5 : kernelRun0_B.sl.HS1_336 c arg1 harg1 arg12 harg12 x0 xs0
    = prods (tiles arg1 harg1 x0) (weights arg12 harg12 xs0) 336 := by sl_kernel_rfl

/-- After 7 groups of rows the products stored are those of the first 392 tiles. -/
theorem prods_6 : kernelRun0_B.sl.HS1_392 c arg1 harg1 arg12 harg12 x0 xs0
    = prods (tiles arg1 harg1 x0) (weights arg12 harg12 xs0) 392 := by sl_kernel_rfl

/-- After 8 groups of rows the products stored are those of the first 448 tiles. -/
theorem prods_7 : kernelRun0_B.sl.HS1_448 c arg1 harg1 arg12 harg12 x0 xs0
    = prods (tiles arg1 harg1 x0) (weights arg12 harg12 xs0) 448 := by sl_kernel_rfl

/-- Group 0's multiplier. -/
theorem factor_0 : kernelRun0_B.sl.r_4 c arg1 harg1 arg12 harg12 x0 xs0
    = factor (tiles arg1 harg1 x0) (weights arg12 harg12 xs0) 0 := by sl_kernel_rfl

/-- Group 1's multiplier. -/
theorem factor_1 : kernelRun0_B.sl.r_7 c arg1 harg1 arg12 harg12 x0 xs0
    = factor (tiles arg1 harg1 x0) (weights arg12 harg12 xs0) 1 := by sl_kernel_rfl

/-- Group 2's multiplier. -/
theorem factor_2 : kernelRun0_B.sl.v3690 c arg1 harg1 arg12 harg12 x0 xs0
    = factor (tiles arg1 harg1 x0) (weights arg12 harg12 xs0) 2 := by sl_kernel_rfl

/-- Group 3's multiplier. -/
theorem factor_3 : kernelRun0_B.sl.v5066 c arg1 harg1 arg12 harg12 x0 xs0
    = factor (tiles arg1 harg1 x0) (weights arg12 harg12 xs0) 3 := by sl_kernel_rfl

/-- Group 4's multiplier. -/
theorem factor_4 : kernelRun0_B.sl.v6442 c arg1 harg1 arg12 harg12 x0 xs0
    = factor (tiles arg1 harg1 x0) (weights arg12 harg12 xs0) 4 := by sl_kernel_rfl

/-- Group 5's multiplier. -/
theorem factor_5 : kernelRun0_B.sl.v7818 c arg1 harg1 arg12 harg12 x0 xs0
    = factor (tiles arg1 harg1 x0) (weights arg12 harg12 xs0) 5 := by sl_kernel_rfl

/-- Group 6's multiplier. -/
theorem factor_6 : kernelRun0_B.sl.v9194 c arg1 harg1 arg12 harg12 x0 xs0
    = factor (tiles arg1 harg1 x0) (weights arg12 harg12 xs0) 6 := by sl_kernel_rfl

/-- Group 7's multiplier. -/
theorem factor_7 : kernelRun0_B.sl.v10570 c arg1 harg1 arg12 harg12 x0 xs0
    = factor (tiles arg1 harg1 x0) (weights arg12 harg12 xs0) 7 := by sl_kernel_rfl

/-- The products stored before a group's codes are written are those of every tile up to that group. -/
theorem Q_eq (g : ℕ) (hg : g < 8) : Q c arg1 arg12 harg1 harg12 x0 xs0 g = prods (tiles arg1 harg1 x0) (weights arg12 harg12 xs0) (56 * (g + 1)) := by
  interval_cases g
  · exact prods_0 c arg1 arg12 harg1 harg12 x0 xs0
  · exact prods_1 c arg1 arg12 harg1 harg12 x0 xs0
  · exact prods_2 c arg1 arg12 harg1 harg12 x0 xs0
  · exact prods_3 c arg1 arg12 harg1 harg12 x0 xs0
  · exact prods_4 c arg1 arg12 harg1 harg12 x0 xs0
  · exact prods_5 c arg1 arg12 harg1 harg12 x0 xs0
  · exact prods_6 c arg1 arg12 harg1 harg12 x0 xs0
  · exact prods_7 c arg1 arg12 harg1 harg12 x0 xs0

/-- A group's multiplier, for every group at once. -/
theorem M_eq (g : ℕ) (hg : g < 8) : M c arg1 arg12 harg1 harg12 x0 xs0 g = factor (tiles arg1 harg1 x0) (weights arg12 harg12 xs0) g := by
  interval_cases g
  · exact factor_0 c arg1 arg12 harg1 harg12 x0 xs0
  · exact factor_1 c arg1 arg12 harg1 harg12 x0 xs0
  · exact factor_2 c arg1 arg12 harg1 harg12 x0 xs0
  · exact factor_3 c arg1 arg12 harg1 harg12 x0 xs0
  · exact factor_4 c arg1 arg12 harg1 harg12 x0 xs0
  · exact factor_5 c arg1 arg12 harg1 harg12 x0 xs0
  · exact factor_6 c arg1 arg12 harg1 harg12 x0 xs0
  · exact factor_7 c arg1 arg12 harg1 harg12 x0 xs0

/-- The codes put out. -/
theorem codes_eq : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs2 xs3).2.2.2.1
    = pieces (codes arg13 (Q c arg1 arg12 harg1 harg12 x0 xs0) (M c arg1 arg12 harg1 harg12 x0 xs0)) [] 448 := by sl_kernel_rfl

/-- The codes kept. -/
theorem kept_eq : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs2 xs3).2.2.2.2.2.2.1
    = pieces (kept arg13 (Q c arg1 arg12 harg1 harg12 x0 xs0) (M c arg1 arg12 harg1 harg12 x0 xs0)) [] 448 := by sl_kernel_rfl

/-- The scales kept. -/
theorem scales_eq : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs2 xs3).2.2.2.2.2.2.2.1
    = spieces (scales (tiles arg1 harg1 x0) (weights arg12 harg12 xs0)) [] 8 := by sl_kernel_rfl

/-- The scales put out. -/
theorem out_scales_eq : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs2 xs3).2.2.2.2.1
    = [⟨Rect.unit (s := S1x1x256) ![0, 0, 0] ![1, 1, 256] inb_S1x1x256_S1x1x256_0_0_0,
        k0_pay1 (k0_pay2740 (arg15.view.readCov (spieces (scales (tiles arg1 harg1 x0) (weights arg12 harg12 xs0)) [] 8)
          (Rect.unit (s := S256x128) ![0, 0] S256x128.size inb_S256x128_S256x128_0_0).toLoadRect))⟩] := by sl_kernel_rfl

end Words

end Cert.Later

end
-- ==== Proof.Heads.lean ====
/- UNTRUSTED — the second half of a grid point: the codes and scales kept from the block before against the weights, each
   head of 128 columns rotated by the angle of its row's position. -/
module

public import proofs.«01_k».proof.Proof.Gen.KernelIdeal.Skeleton
public import proofs.«01_k».proof.Proof.Spec
public import proofs.«01_k».proof.Proof.Row
public import Idealize.ShloMosaic.Lib.Pointwise
public import Idealize.ShloMosaic.Lib.KernelVsHost

@[expose] public section

set_option maxRecDepth 16384

noncomputable section

namespace Cert.Heads

open Idealize.ShloMosaic Cert.KernelIdeal Cert.KernelIdeal.Gen
open scoped BigOperators

/-- The even lanes. -/
def par : IVec S256x128 1 := k0_pay11 (Scalar.select (Scalar.cmpi .eq 2#32 0#32) 1#32 2#32) k0_pay9 k0_pay10

/-- The even lanes, entry by entry. -/
theorem par_apply (r : Fin 256) (l : Fin 128) : par (ix2 r l) = Spec.even l := by
  pointwise [par, k0_pay11, k0_pay9, k0_pay10]
  revert l
  decide +kernel

/-- The sum over the columns of codes times weights. -/
theorem sums_apply (C : Vec Ideal S256x7168 .fp8e4m3) (Q : Vec Ideal S7168x1152 .fp8e4m3) (r : Fin 256) (n : Fin 1152) :
    k0_pay5 C Q (ix2 r n) = ∑ k : Fin 7168, C (ix2 r k) * Q (ix2 k n) := by
  pointwise [k0_pay5]

/-- The sine with its sign, times the scale. -/
def sines (s : Vec Ideal S256x128 .f32) (v : FVec Ideal S256x128 .f32) : FVec Ideal S256x128 .f32 :=
  mulf (select par (subf (broadcast S256x128 (Scalar.ofBits .f32 0x00000000#32)) v) v) s

/-- The signed, scaled sine, entry by entry. -/
theorem sines_apply (s : Vec Ideal S256x128 .f32) (v : FVec Ideal S256x128 .f32) (r : Fin 256) (l : Fin 128) :
    sines s v (ix2 r l) = Spec.signed (Spec.even l) (v (ix2 r l)) * s (ix2 r l) := by
  rw [Spec.signed, ← par_apply r l]
  unfold sines
  generalize par = e
  pointwise []

/-- The cosine times the scale. -/
def cosines (s : Vec Ideal S256x128 .f32) (v : FVec Ideal S256x128 .f32) : FVec Ideal S256x128 .f32 := mulf v s

/-- The scaled cosine, entry by entry. -/
theorem cosines_apply (s : Vec Ideal S256x128 .f32) (v : FVec Ideal S256x128 .f32) (r : Fin 256) (l : Fin 128) :
    cosines s v (ix2 r l) = v (ix2 r l) * s (ix2 r l) := by
  pointwise [cosines]

/-- The 128 columns from column `o` on, each times its column's scale. -/
def cols (o : ℕ) (h : S256x1152.Slices ![0, o] S256x128) (y : FVec Ideal S256x1152 .f32) (b : Vec Ideal S1x128 .f32) :
    FVec Ideal S256x128 .f32 :=
  mulf (extractStridedSlice S256x128 ![0, o] y h)
    (broadcastTo S256x128 (shapeCast S1x128 b shapeCasts_S1x128_S1x128) broadcasts_S1x128_S256x128)

/-- A head's columns, entry by entry. -/
theorem cols_apply (o : ℕ) (ho : o + 128 ≤ 1152) (h : S256x1152.Slices ![0, o] S256x128) (y : FVec Ideal S256x1152 .f32)
    (b : Vec Ideal S1x128 .f32) (r : Fin 256) (l : Fin 128) :
    cols o h y b (ix2 r l) = y (ix2 r ⟨o + l.val, by omega⟩) * b (ix2 0 l) := by
  pointwise [cols]

/-- A head rotated. -/
def head (y : FVec Ideal S256x128 .f32) (c s : FVec Ideal S256x128 .f32) : FVec Ideal S1x256x128 .bf16 :=
  shapeCast S1x256x128 (truncf .bf16 (addf (mulf y c)
    (mulf (select par (dynamicRotate 1 127#32 none y rotates_S256x128_d1) (dynamicRotate 1 1#32 none y rotates_S256x128_d1)) s))
    bitsLt_bf16_f32) shapeCasts_S256x128_S1x256x128

/-- The partner lane's entry. -/
theorem partner_apply (y : FVec Ideal S256x128 .f32) (r : Fin 256) (l : Fin 128) :
    Scalar.select (Spec.even l) (dynamicRotate 1 127#32 none y rotates_S256x128_d1 (ix2 r l))
      (dynamicRotate 1 1#32 none y rotates_S256x128_d1 (ix2 r l)) = y (ix2 r (Spec.partner l)) := by
  refine Spec.select_partner l _ _ (fun i => y (ix2 r i)) (fun hl => ?_) (fun hl => ?_)
  · refine dynamicRotate_apply (1 : Fin 2) 127#32 y _ _ (ix2 r ⟨l.val + 1, hl⟩) fun b => ?_
    match b with
    | 0 => rfl
    | 1 => show l.val + 1 = (l.val + 128 - 127) % 128; omega
  · refine dynamicRotate_apply (1 : Fin 2) 1#32 y _ _ (ix2 r ⟨l.val - 1, by omega⟩) fun b => ?_
    match b with
    | 0 => rfl
    | 1 => show l.val - 1 = (l.val + 128 - 1) % 128; omega

/-- A rotated head, entry by entry. -/
theorem head_apply (y c s : FVec Ideal S256x128 .f32) (r : Fin 256) (l : Fin 128) :
    head y c s (ix3 0 r l) = y (ix2 r l) * c (ix2 r l) + y (ix2 r (Spec.partner l)) * s (ix2 r l) := by
  rw [← partner_apply y, ← par_apply r l]
  unfold head
  generalize par = e
  generalize dynamicRotate 1 127#32 none y rotates_S256x128_d1 = u
  generalize dynamicRotate 1 1#32 none y rotates_S256x128_d1 = v
  pointwise []

/-- The last head, unrotated: the columns, times the scale. -/
def plain (y : FVec Ideal S256x128 .f32) (s : Vec Ideal S256x128 .f32) : FVec Ideal S1x256x128 .bf16 :=
  shapeCast S1x256x128 (truncf .bf16 (mulf y s) bitsLt_bf16_f32) shapeCasts_S256x128_S1x256x128

/-- A head that is not rotated, entry by entry. -/
theorem plain_apply (y : FVec Ideal S256x128 .f32) (s : Vec Ideal S256x128 .f32) (r : Fin 256) (l : Fin 128) :
    plain y s (ix3 0 r l) = y (ix2 r l) * s (ix2 r l) := by
  pointwise [plain]

/-! ### The angle -/

/-- The three parts add up to a whole turn. -/
theorem turn : (607618132197707707 / 303902672285820882) * Real.pi + 611 / 991839 * Real.pi + 1 / 306403229038 * Real.pi
    = 2 * Real.pi := by
  ring

/-- An angle less some number of whole turns, taken off in three parts. -/
def less (a : EReal) : EReal :=
  a - Ideal.liftRound Ideal.roundHalfEven (a * Ideal.ofBits .f32 0x3E22F983#32)
        * (Named.named κ "two_pi_hi" 0x40C90000#32 : Ideal .f32)
    - Ideal.liftRound Ideal.roundHalfEven (a * Ideal.ofBits .f32 0x3E22F983#32)
        * (Named.named κ "two_pi_mid" 0x3AFDAA22#32 : Ideal .f32)
    - Ideal.liftRound Ideal.roundHalfEven (a * Ideal.ofBits .f32 0x3E22F983#32)
        * (Named.named κ "two_pi_lo" 0x2D346000#32 : Ideal .f32)

/-- The number taken off is whole, and the parts are those of a turn. -/
theorem less_coe (a : ℝ) : ∃ n : ℤ, less (a : EReal) = (a : EReal)
    - (n : ℝ) * (((607618132197707707 / 303902672285820882) * Real.pi : ℝ) : EReal)
    - (n : ℝ) * (((611 / 991839) * Real.pi : ℝ) : EReal) - (n : ℝ) * (((1 / 306403229038) * Real.pi : ℝ) : EReal) := by
  obtain ⟨r, hr⟩ := Row.ofBits_real 0x3E22F983#32 (by decide)
  refine ⟨Ideal.roundHalfEven (a * r), ?_⟩
  unfold less
  rw [hr, ← EReal.coe_mul, Row.round_coe,
    show (Named.named κ "two_pi_hi" 0x40C90000#32 : Ideal .f32) = _ from IdealRules.named_const.ideal_named_scalar _ _ _ _ rfl,
    show (Named.named κ "two_pi_mid" 0x3AFDAA22#32 : Ideal .f32) = _ from IdealRules.named_const.ideal_named_scalar _ _ _ _ rfl,
    show (Named.named κ "two_pi_lo" 0x2D346000#32 : Ideal .f32) = _ from IdealRules.named_const.ideal_named_scalar _ _ _ _ rfl]

/-- Taking whole turns off an angle leaves its sine … -/
theorem sin_less (a : ℝ) : Ideal.sin (less (a : EReal)) = Ideal.sin a := by
  obtain ⟨n, hn⟩ := less_coe a
  rw [hn, Row.sin_reduced a n turn]

/-- … and its cosine. -/
theorem cos_less (a : ℝ) : Ideal.cos (less (a : EReal)) = Ideal.cos a := by
  obtain ⟨n, hn⟩ := less_coe a
  rw [hn, Row.cos_reduced a n turn]

/-- A position times a frequency. -/
def angle (pos : Vec Ideal S1x1x256 .i32) (freq : Vec Ideal S1x128 .f32) (r : Fin 256) (l : Fin 128) : EReal :=
  (((pos (ix3 0 0 r)).toInt : ℝ) : EReal) * freq (ix2 0 l)

/-- The angle of a token at a lane is a real number. -/
theorem angle_coe (pos : Vec Ideal S1x1x256 .i32) (freq : Vec Ideal S1x128 .f32) (r : Fin 256) (l : Fin 128)
    (hf : ∃ f : ℝ, freq (ix2 0 l) = (f : EReal)) : ∃ a : ℝ, angle pos freq r l = (a : EReal) := by
  obtain ⟨f, hf⟩ := hf
  refine ⟨((pos (ix3 0 0 r)).toInt : ℝ) * f, ?_⟩
  rw [angle, hf, ← EReal.coe_mul]

/-- Whole turns taken off do not change the sine … -/
theorem sine_apply (pos : Vec Ideal S1x1x256 .i32) (freq : Vec Ideal S1x128 .f32) (r : Fin 256) (l : Fin 128)
    (hf : ∃ f : ℝ, freq (ix2 0 l) = (f : EReal)) :
    k0_pay7 pos freq (ix2 r l) = Ideal.sin (angle pos freq r l) := by
  have h : k0_pay7 pos freq (ix2 r l) = Ideal.sin (less (angle pos freq r l)) := by
    pointwise [k0_pay7, k0_pay6]
    rfl
  obtain ⟨a, ha⟩ := angle_coe pos freq r l hf
  rw [h, ha, sin_less]

/-- … nor the cosine. -/
theorem cosine_apply (pos : Vec Ideal S1x1x256 .i32) (freq : Vec Ideal S1x128 .f32) (r : Fin 256) (l : Fin 128)
    (hf : ∃ f : ℝ, freq (ix2 0 l) = (f : EReal)) :
    k0_pay8 pos freq (ix2 r l) = Ideal.cos (angle pos freq r l) := by
  have h : k0_pay8 pos freq (ix2 r l) = Ideal.cos (less (angle pos freq r l)) := by
    pointwise [k0_pay8, k0_pay6]
    rfl
  obtain ⟨a, ha⟩ := angle_coe pos freq r l hf
  rw [h, ha, cos_less]

end Cert.Heads

end
-- ==== Proof.Stack.lean ====
/- UNTRUSTED — a stack of seven heads stored one by one, and what it holds. -/
module

public import proofs.«01_k».proof.Proof.Pieces

@[expose] public section

noncomputable section

namespace Cert.Stack

open Idealize.ShloMosaic

variable {R : ℕ} {e : EltTy}

/-- Seven heads of `R` rows. -/
abbrev seven (R : ℕ) : Shape := ⟨3, ![7, R, 128]⟩

/-- One head. -/
abbrev one (R : ℕ) : Shape := ⟨3, ![1, R, 128]⟩

/-- Where head `h` lies. -/
abbrev hrect (R : ℕ) (h : Fin 7) : Rect (seven R) :=
  Rect.unit (s := seven R) ![h.val, 0, 0] (one R).size
    (fun a => match a with
      | 0 => show h.val + 1 ≤ 7 by omega
      | 1 => show 0 + R ≤ R by omega
      | 2 => show 0 + 128 ≤ 128 by omega)

/-- The seven stores, the last in front. -/
def heads (p : Fin 7 → Vec Ideal (one R) e) : List (View.Piece (Elt Ideal) (seven R) e) :=
  [⟨hrect R 6, p 6⟩, ⟨hrect R 5, p 5⟩, ⟨hrect R 4, p 4⟩, ⟨hrect R 3, p 3⟩, ⟨hrect R 2, p 2⟩, ⟨hrect R 1, p 1⟩, ⟨hrect R 0, p 0⟩]

variable (p : Fin 7 → Vec Ideal (one R) e)

/-- Where an entry of a head lies in the stack. -/
theorem idx_hrect (h : Fin 7) (r : Fin R) (l : Fin 128) : (hrect R h).idx (ix3 0 r l : (one R).Idx) = ix3 h r l := by
  funext a
  match a with
  | 0 => exact Fin.ext (by simp)
  | 1 => exact Fin.ext (by simp)
  | 2 => exact Fin.ext (by simp)

/-- Each head's store is among the seven. -/
theorem mem_heads (h : Fin 7) : (⟨hrect R h, p h⟩ : View.Piece (Elt Ideal) (seven R) e) ∈ heads p := by
  unfold heads
  match h with
  | 0 => simp
  | 1 => simp
  | 2 => simp
  | 3 => simp
  | 4 => simp
  | 5 => simp
  | 6 => simp

/-- Each store agrees with the stack read head by head. -/
theorem piece (h : Fin 7) (x : (one R).Idx) :
    p h x = (fun j : (seven R).Idx => p (j 0) (ix3 0 (j 1) (j 2) : (one R).Idx)) ((hrect R h).idx x) := by
  have hx : x = (ix3 (0 : Fin 1) (x 1 : Fin R) (x 2 : Fin 128) : (one R).Idx) := funext fun a => match a with
    | 0 => Subsingleton.elim (α := Fin 1) _ _
    | 1 => rfl
    | 2 => rfl
  let G : (seven R).Idx → Elt Ideal e := fun j => p (j 0) (ix3 0 (j 1) (j 2) : (one R).Idx)
  exact (congrArg (p h) hx).trans ((congrArg G (idx_hrect h (x 1 : Fin R) (x 2 : Fin 128)).symm).trans
    (congrArg (fun y => G ((hrect R h).idx y)) hx.symm))

/-- Each head of the stack is the one stored there. -/
theorem canon_heads (h : Fin 7) (r : Fin R) (l : Fin 128) : View.canon (heads p) (ix3 h r l) = p h (ix3 0 r l : (one R).Idx) := by
  have := View.canon_append_of_piecesOf (fun j : (seven R).Idx => p (j 0) (ix3 0 (j 1) (j 2) : (one R).Idx)) [] (heads p)
    ⟨piece p 6, piece p 5, piece p 4, piece p 3, piece p 2, piece p 1, piece p 0, trivial⟩ (ix3 h r l)
    ⟨_, mem_heads p h, idx_hrect h r l ▸ (hrect R h).idx_mem (ix3 0 r l : (one R).Idx)⟩
  rwa [List.append_nil] at this

end Cert.Stack

end
-- ==== Proof.HeadRun.lean ====
/- UNTRUSTED — the heads a later grid point stores, from the codes and scales kept by the point before. -/
module

public import proofs.«01_k».proof.Proof.Heads
public import proofs.«01_k».proof.Proof.Stack
public import Idealize.ShloMosaic.Lib.WholeRead
public import proofs.«01_k».proof.Proof.Gen.KernelIdeal.Value

@[expose] public section

set_option maxRecDepth 16384

noncomputable section

namespace Cert.HeadRun

open Idealize.ShloMosaic Cert.KernelIdeal Cert.KernelIdeal.Gen Cert.Heads Cert.Stack

/-- The columns from `o` on as one point computes them. -/
def block (o : ℕ) (h : S256x1152.Slices ![0, o] S256x128) (ho : o + 128 ≤ 1152)
    (arg3 : Memref sig .tc .vmem S7168x1152 .fp8e4m3) (harg3 : arg3.IsWhole)
    (arg4 : Memref sig .tc .vmem S1x1152 .f32) (harg4 : arg4.IsWhole)
    (arg14 : Memref sig .tc .vmem S256x7168 .fp8e4m3) (harg14 : arg14.IsWhole)
    (x2 : Vec Ideal S7168x1152 .fp8e4m3) (x3 : Vec Ideal S1x1152 .f32) (xs2 : Vec Ideal S256x7168 .fp8e4m3) :
    FVec Ideal S256x128 .f32 :=
  cols o h (k0_pay5
      (View.readAt (Elt Ideal) arg14.view (Rect.unit (s := S256x7168) ![0, 0] S256x7168.size inb_S256x7168_S256x7168_0_0).toLoadRect (harg14.unread xs2))
      (View.readAt (Elt Ideal) arg3.view (Rect.unit (s := S7168x1152) ![0, 0] S7168x1152.size inb_S7168x1152_S7168x1152_0_0).toLoadRect (harg3.unread x2)))
    (View.readAt (Elt Ideal) arg4.view (Rect.unit (s := S1x1152) ![0, o] S1x128.size
      (fun a => match a with | 0 => show 0 + 1 ≤ 1 by omega | 1 => ho)).toLoadRect (harg4.unread x3))

/-- A whole buffer read in one load is what it was given. -/
theorem read_whole2 {n k : ℕ} {e : EltTy} (m : Memref sig .tc .vmem ⟨2, ![n, k]⟩ e) (hm : m.IsWhole)
    (x : Vec Ideal ⟨2, ![n, k]⟩ e) (h) :
    View.readAt (Elt Ideal) m.view (Rect.unit (s := ⟨2, ![n, k]⟩) ![0, 0] ![n, k] h).toLoadRect (hm.unread x) = x := by
  funext (j : (⟨2, ![n, k]⟩ : Shape).Idx)
  refine (Memref.IsWhole.readAt_unread hm x (Rect.unit (s := ⟨2, ![n, k]⟩) ![0, 0] ![n, k] h).toLoadRect j).trans (congrArg x ?_)
  funext a
  match a with
  | 0 => exact Fin.ext (by simp)
  | 1 => exact Fin.ext (by simp)

/-- A head's columns of the projection, entry by entry. -/
theorem block_apply (o : ℕ) (h : S256x1152.Slices ![0, o] S256x128) (ho : o + 128 ≤ 1152)
    (arg3 : Memref sig .tc .vmem S7168x1152 .fp8e4m3) (harg3 : arg3.IsWhole)
    (arg4 : Memref sig .tc .vmem S1x1152 .f32) (harg4 : arg4.IsWhole)
    (arg14 : Memref sig .tc .vmem S256x7168 .fp8e4m3) (harg14 : arg14.IsWhole)
    (x2 : Vec Ideal S7168x1152 .fp8e4m3) (x3 : Vec Ideal S1x1152 .f32) (xs2 : Vec Ideal S256x7168 .fp8e4m3)
    (r : Fin 256) (l : Fin 128) :
    block o h ho arg3 harg3 arg4 harg4 arg14 harg14 x2 x3 xs2 (ix2 r l)
      = (∑ k : Fin 7168, xs2 (ix2 r k) * x2 (ix2 k ⟨o + l.val, by omega⟩)) * x3 (ix2 0 ⟨o + l.val, by omega⟩) := by
  rw [block, cols_apply o ho, read_whole2 arg14, read_whole2 arg3, sums_apply]
  refine congrArg _ ((Memref.IsWhole.readAt_unread harg4 x3 (Rect.unit (s := S1x1152) ![0, o] S1x128.size
      (fun a => match a with | 0 => show 0 + 1 ≤ 1 by omega | 1 => ho)).toLoadRect (ix2 0 l : S1x128.Idx)).trans (congrArg x3 ?_))
  funext a
  match a with
  | 0 => exact Fin.ext (by simp)
  | 1 => exact Fin.ext (by simp)

section Words

variable (c : Dev nD) (i : grid0.Coords) (arg1 : Memref sig .tc .vmem S256x7168 .bf16) (arg2 : Memref sig .tc .vmem S1x7168 .bf16)
  (arg3 : Memref sig .tc .vmem S7168x1152 .fp8e4m3) (arg4 : Memref sig .tc .vmem S1x1152 .f32)
  (arg5 : Memref sig .tc .vmem S1x1x256 .i32) (arg6 : Memref sig .tc .vmem S1x128 .f32)
  (arg7 : Memref sig .tc .vmem S7x256x128 .bf16) (arg8 : Memref sig .tc .vmem S1x256x128 .bf16)
  (arg9 : Memref sig .tc .vmem S1x256x128 .bf16) (arg10 : Memref sig .tc .vmem S256x7168 .fp8e4m3)
  (arg11 : Memref sig .tc .vmem S1x1x256 .f32) (arg12 : Memref sig .tc .vmem S1x7168 .f32)
  (arg13 : Memref sig .tc .vmem S256x7168 .f32) (arg14 : Memref sig .tc .vmem S256x7168 .fp8e4m3)
  (arg15 : Memref sig .tc .vmem S256x128 .f32)
  (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole)
  (hc0 : ¬cond0_0 i)
  (x0 : Vec Ideal S256x7168 .bf16) (x1 : Vec Ideal S1x7168 .bf16) (x2 : Vec Ideal S7168x1152 .fp8e4m3)
  (x3 : Vec Ideal S1x1152 .f32) (x4 : Vec Ideal S1x1x256 .i32) (x5 : Vec Ideal S1x128 .f32)
  (xs0 : Vec Ideal S1x7168 .f32) (xs2 : Vec Ideal S256x7168 .fp8e4m3) (xs3 : Vec Ideal S256x128 .f32)

/-- The positions as they are loaded, … -/
def posns : Vec Ideal S1x1x256 .i32 :=
  View.readAt (Elt Ideal) arg5.view (Rect.unit (s := S1x1x256) ![0, 0, 0] S1x1x256.size inb_S1x1x256_S1x1x256_0_0_0).toLoadRect (harg5.unread x4)

/-- … the frequencies, … -/
def freqs : Vec Ideal S1x128 .f32 :=
  View.readAt (Elt Ideal) arg6.view (Rect.unit (s := S1x128) ![0, 0] S1x128.size inb_S1x128_S1x128_0_0).toLoadRect (harg6.unread x5)

/-- … and the scales kept. -/
def scls : Vec Ideal S256x128 .f32 :=
  View.readAt (Elt Ideal) arg15.view (Rect.unit (s := S256x128) ![0, 0] S256x128.size inb_S256x128_S256x128_0_0).toLoadRect (harg15.unread xs3)

/-- The positions loaded are the block of positions. -/
theorem posns_eq : posns arg5 harg5 x4 = x4 := by
  funext (j : S1x1x256.Idx)
  refine (Memref.IsWhole.readAt_unread harg5 x4 (Rect.unit (s := S1x1x256) ![0, 0, 0] S1x1x256.size inb_S1x1x256_S1x1x256_0_0_0).toLoadRect j).trans (congrArg x4 ?_)
  funext a
  match a with
  | 0 => exact Fin.ext (by simp)
  | 1 => exact Fin.ext (by simp)
  | 2 => exact Fin.ext (by simp)

/-- The frequencies loaded are the block of frequencies. -/
theorem freqs_eq : freqs arg6 harg6 x5 = x5 := read_whole2 arg6 harg6 x5 _

/-- The scales loaded are the ones the point before kept. -/
theorem scls_eq : scls arg15 harg15 xs3 = xs3 := read_whole2 arg15 harg15 xs3 _

/-- A rotated head as one point stores it. -/
def rotated (o : ℕ) (h : S256x1152.Slices ![0, o] S256x128) (ho : o + 128 ≤ 1152) : FVec Ideal S1x256x128 .bf16 :=
  head (block o h ho arg3 harg3 arg4 harg4 arg14 harg14 x2 x3 xs2)
    (k0_pay12 (scls arg15 harg15 xs3) (k0_pay8 (posns arg5 harg5 x4) (freqs arg6 harg6 x5)))
    (sines (scls arg15 harg15 xs3) (k0_pay7 (posns arg5 harg5 x4) (freqs arg6 harg6 x5)))

/-- A rotated head, at an entry: the row's kept codes against the weight's columns, times that column's scale. -/
theorem rotated_apply (X W : Fin 7168 → EReal) (r : Fin 256) (l : Fin 128)
    (hC : ∀ k, xs2 (ix2 r k) = Spec.code X W k) (hS : ∀ l, xs3 (ix2 r l) = Spec.scale X W)
    (hf : ∃ f : ℝ, x5 (ix2 0 l) = (f : EReal))
    (o : ℕ) (h : S256x1152.Slices ![0, o] S256x128) (ho : o + 128 ≤ 1152) :
    rotated arg3 arg4 arg5 arg6 arg14 arg15 harg3 harg4 harg5 harg6 harg14 harg15 x2 x3 x4 x5 xs2 xs3 o h ho (ix3 0 r l)
      = Spec.rope (Spec.even l)
          (Spec.proj X W (fun k => x2 (ix2 k ⟨o + l.val, by omega⟩)) (x3 (ix2 0 ⟨o + l.val, by omega⟩)))
          (Spec.proj X W (fun k => x2 (ix2 k ⟨o + (Spec.partner l).val, by omega⟩)) (x3 (ix2 0 ⟨o + (Spec.partner l).val, by omega⟩)))
          (angle x4 x5 r l) := by
  rw [rotated, head_apply, block_apply, block_apply, sines_apply, posns_eq, freqs_eq, scls_eq, sine_apply x4 x5 r l hf,
    show k0_pay12 xs3 (k0_pay8 x4 x5) = cosines xs3 (k0_pay8 x4 x5) from rfl, cosines_apply, cosine_apply x4 x5 r l hf, hS]
  simp only [hC]
  exact Spec.rope_eq X W _ _ _ _ _ _

/-- The head that is not rotated, at an entry. -/
theorem plain_block_apply (X W : Fin 7168 → EReal) (r : Fin 256) (l : Fin 128)
    (hC : ∀ k, xs2 (ix2 r k) = Spec.code X W k) (hS : ∀ l, xs3 (ix2 r l) = Spec.scale X W)
    (o : ℕ) (h : S256x1152.Slices ![0, o] S256x128) (ho : o + 128 ≤ 1152) :
    plain (block o h ho arg3 harg3 arg4 harg4 arg14 harg14 x2 x3 xs2) (scls arg15 harg15 xs3) (ix3 0 r l)
      = Spec.proj X W (fun k => x2 (ix2 k ⟨o + l.val, by omega⟩)) (x3 (ix2 0 ⟨o + l.val, by omega⟩)) := by
  rw [plain_apply, block_apply, scls_eq, hS]
  simp only [hC]
  exact Spec.proj_eq X W _ _

/-- The offsets of the query heads fit. -/
theorem slices (h : Fin 7) : S256x1152.Slices ![0, 128 * h.val] S256x128 := by
  revert h; decide

/-- The query heads put out. -/
theorem queries_eq : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs2 xs3).1
    = heads (R := 256) fun h => rotated arg3 arg4 arg5 arg6 arg14 arg15 harg3 harg4 harg5 harg6 harg14 harg15 x2 x3 x4 x5 xs2 xs3 (128 * h.val) (slices h) (by omega) := by sl_kernel_rfl

/-- The key head put out. -/
theorem key_eq : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs2 xs3).2.1
    = [⟨Rect.unit (s := S1x256x128) ![0, 0, 0] S1x256x128.size inb_S1x256x128_S1x256x128_0_0_0,
        rotated arg3 arg4 arg5 arg6 arg14 arg15 harg3 harg4 harg5 harg6 harg14 harg15 x2 x3 x4 x5 xs2 xs3 896 (by decide) (by omega)⟩] := by sl_kernel_rfl

/-- The value head put out. -/
theorem value_eq : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs2 xs3).2.2.1
    = [⟨Rect.unit (s := S1x256x128) ![0, 0, 0] S1x256x128.size inb_S1x256x128_S1x256x128_0_0_0,
        plain (block 1024 (by decide) (by omega) arg3 harg3 arg4 harg4 arg14 harg14 x2 x3 xs2) (scls arg15 harg15 xs3)⟩] := by sl_kernel_rfl

end Words

end Cert.HeadRun

end
-- ==== Proof.Blocks.lean ====
/- UNTRUSTED — what one grid point puts out and keeps, as functions of its operands' blocks and of what the point before
   kept. -/
module

public import proofs.«01_k».proof.Proof.First
public import proofs.«01_k».proof.Proof.Later
public import proofs.«01_k».proof.Proof.HeadRun

@[expose] public section

set_option maxRecDepth 16384

noncomputable section

namespace Cert.Blocks

open Idealize.ShloMosaic Cert.KernelIdeal Cert.KernelIdeal.Gen Cert.Pieces Cert.Group

/-- One store of a whole array of three axes is that array. -/
theorem canon_whole3 {a b d : ℕ} {e : EltTy} (h) (v : Vec Ideal ⟨3, ![a, b, d]⟩ e) :
    View.canon (Val := Elt Ideal) [⟨Rect.unit (s := ⟨3, ![a, b, d]⟩) ![0, 0, 0] ![a, b, d] h, v⟩] = v :=
  View.canon_unit_zero (S := ⟨3, ![a, b, d]⟩) (off := ![0, 0, 0])
    (funext fun (a : Fin 3) => match a with | 0 => rfl | 1 => rfl | 2 => rfl) h v

/-- An index of a whole array of two axes. -/
theorem idx_whole2 {n k : ℕ} (h) (j : (⟨2, ![n, k]⟩ : Shape).Idx) :
    (Rect.unit (s := ⟨2, ![n, k]⟩) ![0, 0] ![n, k] h).toLoadRect.idx j = j := by
  funext a
  match a with
  | 0 => exact Fin.ext (by simp)
  | 1 => exact Fin.ext (by simp)

variable (c : Dev nD) (i : grid0.Coords) (arg1 : Memref sig .tc .vmem S256x7168 .bf16) (arg2 : Memref sig .tc .vmem S1x7168 .bf16)
  (arg3 : Memref sig .tc .vmem S7168x1152 .fp8e4m3) (arg4 : Memref sig .tc .vmem S1x1152 .f32)
  (arg5 : Memref sig .tc .vmem S1x1x256 .i32) (arg6 : Memref sig .tc .vmem S1x128 .f32)
  (arg7 : Memref sig .tc .vmem S7x256x128 .bf16) (arg8 : Memref sig .tc .vmem S1x256x128 .bf16)
  (arg9 : Memref sig .tc .vmem S1x256x128 .bf16) (arg10 : Memref sig .tc .vmem S256x7168 .fp8e4m3)
  (arg11 : Memref sig .tc .vmem S1x1x256 .f32) (arg12 : Memref sig .tc .vmem S1x7168 .f32)
  (arg13 : Memref sig .tc .vmem S256x7168 .f32) (arg14 : Memref sig .tc .vmem S256x7168 .fp8e4m3)
  (arg15 : Memref sig .tc .vmem S256x128 .f32)
  (harg1 : arg1.IsWhole) (harg2 : arg2.IsWhole) (harg3 : arg3.IsWhole) (harg4 : arg4.IsWhole) (harg5 : arg5.IsWhole)
  (harg6 : arg6.IsWhole) (harg7 : arg7.IsWhole) (harg8 : arg8.IsWhole) (harg9 : arg9.IsWhole) (harg10 : arg10.IsWhole)
  (harg11 : arg11.IsWhole) (harg12 : arg12.IsWhole) (harg13 : arg13.IsWhole) (harg14 : arg14.IsWhole) (harg15 : arg15.IsWhole)
  (x0 : Vec Ideal S256x7168 .bf16) (x1 : Vec Ideal S1x7168 .bf16) (x2 : Vec Ideal S7168x1152 .fp8e4m3)
  (x3 : Vec Ideal S1x1152 .f32) (x4 : Vec Ideal S1x1x256 .i32) (x5 : Vec Ideal S1x128 .f32)

section First

variable (hc0 : cond0_0 i)

/-- The codes put out at a first point. -/
theorem codes_A (r : Fin 256) (k : Fin 7168) :
    out0_A_9 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 hc0 x0 x1 x2 x3 x4 x5 (ix2 r k)
      = Spec.code (fun k => x0 (ix2 r k)) (fun k => x1 (ix2 0 k)) k := by
  rw [out0_A_9, View.read_writes_junk_eq_canon, First.codes_eq]
  exact codes_block (X := fun i k => x0 (ix2 i k)) (W := fun k => x1 (ix2 0 k)) (fun n r l => First.tiles_apply arg1 harg1 x0 n r l) (fun n l => First.weights_apply c arg2 harg2 arg12 x1 n l)
    arg13 (First.Q_eq c arg1 arg2 arg12 harg1 harg2 x0 x1) (First.M_eq c arg1 arg2 arg12 harg1 harg2 x0 x1) _ r k

/-- The codes kept. -/
theorem kept_A (r : Fin 256) (k : Fin 7168) :
    sout0_A_2 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 hc0 x0 x1 x2 x3 x4 x5 (ix2 r k)
      = Spec.code (fun k => x0 (ix2 r k)) (fun k => x1 (ix2 0 k)) k := by
  rw [sout0_A_2, View.read_writes_junk_eq_canon, First.kept_eq]
  exact kept_block (X := fun i k => x0 (ix2 i k)) (W := fun k => x1 (ix2 0 k)) (fun n r l => First.tiles_apply arg1 harg1 x0 n r l) (fun n l => First.weights_apply c arg2 harg2 arg12 x1 n l)
    arg13 (First.Q_eq c arg1 arg2 arg12 harg1 harg2 x0 x1) (First.M_eq c arg1 arg2 arg12 harg1 harg2 x0 x1) _ r k

/-- The scales kept. -/
theorem scales_A (r : Fin 256) (l : Fin 128) :
    sout0_A_3 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 hc0 x0 x1 x2 x3 x4 x5 (ix2 r l)
      = Spec.scale (fun k => x0 (ix2 r k)) (fun k => x1 (ix2 0 k)) := by
  rw [sout0_A_3, View.read_writes_junk_eq_canon, First.scales_eq]
  exact scales_block (X := fun i k => x0 (ix2 i k)) (W := fun k => x1 (ix2 0 k)) (fun n r l => First.tiles_apply arg1 harg1 x0 n r l) (fun n l => First.weights_apply c arg2 harg2 arg12 x1 n l) _ r l

/-- The scales put out. -/
theorem out_scales_A (r : Fin 256) :
    out0_A_10 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 hc0 x0 x1 x2 x3 x4 x5 (ix3 (0 : Fin 1) (0 : Fin 1) r)
      = Spec.scale (fun k => x0 (ix2 r k)) (fun k => x1 (ix2 0 k)) := by
  rw [out0_A_10, View.read_writes_junk_eq_canon, First.out_scales_eq, canon_whole3, out_scales_apply, View.readCov_eq_canon']
  exact (congrArg (View.canon _) (idx_whole2 _ (ix2 r 0))).trans (scales_block (X := fun i k => x0 (ix2 i k)) (W := fun k => x1 (ix2 0 k))
    (fun n r l => First.tiles_apply arg1 harg1 x0 n r l) (fun n l => First.weights_apply c arg2 harg2 arg12 x1 n l) _ r 0)

/-- The weight row kept. -/
theorem row_A (k : Fin 7168) :
    sout0_A_0 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 hc0 x0 x1 x2 x3 x4 x5 (ix2 (0 : Fin 1) k) = x1 (ix2 (0 : Fin 1) k) := by
  rw [sout0_A_0, View.read_writes_junk_eq_canon]
  exact First.row_apply c arg2 harg2 x1 k

end First

section Later

variable (hc0 : ¬cond0_0 i)
  (xs0 : Vec Ideal S1x7168 .f32) (xs2 : Vec Ideal S256x7168 .fp8e4m3) (xs3 : Vec Ideal S256x128 .f32)

/-- The codes put out at a later point. -/
theorem codes_B (r : Fin 256) (k : Fin 7168) :
    out0_B_9 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 hc0 x0 x1 x2 x3 x4 x5 xs0 xs2 xs3 (ix2 r k)
      = Spec.code (fun k => x0 (ix2 r k)) (fun k => xs0 (ix2 0 k)) k := by
  rw [out0_B_9, View.read_writes_junk_eq_canon, Later.codes_eq]
  exact codes_block (X := fun i k => x0 (ix2 i k)) (W := fun k => xs0 (ix2 0 k)) (fun n r l => Later.tiles_apply arg1 harg1 x0 n r l) (fun n l => Later.weights_apply arg12 harg12 xs0 n l)
    arg13 (Later.Q_eq c arg1 arg12 harg1 harg12 x0 xs0) (Later.M_eq c arg1 arg12 harg1 harg12 x0 xs0) _ r k

/-- The codes kept. -/
theorem kept_B (r : Fin 256) (k : Fin 7168) :
    sout0_B_2 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 hc0 x0 x1 x2 x3 x4 x5 xs0 xs2 xs3 (ix2 r k)
      = Spec.code (fun k => x0 (ix2 r k)) (fun k => xs0 (ix2 0 k)) k := by
  rw [sout0_B_2, View.read_writes_junk_eq_canon, Later.kept_eq]
  exact kept_block (X := fun i k => x0 (ix2 i k)) (W := fun k => xs0 (ix2 0 k)) (fun n r l => Later.tiles_apply arg1 harg1 x0 n r l) (fun n l => Later.weights_apply arg12 harg12 xs0 n l)
    arg13 (Later.Q_eq c arg1 arg12 harg1 harg12 x0 xs0) (Later.M_eq c arg1 arg12 harg1 harg12 x0 xs0) _ r k

/-- The scales kept. -/
theorem scales_B (r : Fin 256) (l : Fin 128) :
    sout0_B_3 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 hc0 x0 x1 x2 x3 x4 x5 xs0 xs2 xs3 (ix2 r l)
      = Spec.scale (fun k => x0 (ix2 r k)) (fun k => xs0 (ix2 0 k)) := by
  rw [sout0_B_3, View.read_writes_junk_eq_canon, Later.scales_eq]
  exact scales_block (X := fun i k => x0 (ix2 i k)) (W := fun k => xs0 (ix2 0 k)) (fun n r l => Later.tiles_apply arg1 harg1 x0 n r l) (fun n l => Later.weights_apply arg12 harg12 xs0 n l) _ r l

/-- The scales put out. -/
theorem out_scales_B (r : Fin 256) :
    out0_B_10 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 hc0 x0 x1 x2 x3 x4 x5 xs0 xs2 xs3 (ix3 (0 : Fin 1) (0 : Fin 1) r)
      = Spec.scale (fun k => x0 (ix2 r k)) (fun k => xs0 (ix2 0 k)) := by
  rw [out0_B_10, View.read_writes_junk_eq_canon, Later.out_scales_eq, canon_whole3, out_scales_apply, View.readCov_eq_canon']
  exact (congrArg (View.canon _) (idx_whole2 _ (ix2 r 0))).trans (scales_block (X := fun i k => x0 (ix2 i k)) (W := fun k => xs0 (ix2 0 k))
    (fun n r l => Later.tiles_apply arg1 harg1 x0 n r l) (fun n l => Later.weights_apply arg12 harg12 xs0 n l) _ r 0)

/-- The query heads put out, from the codes and scales kept. -/
theorem queries_B (X W : Fin 7168 → EReal) (r : Fin 256) (l : Fin 128)
    (hC : ∀ k, xs2 (ix2 r k) = Spec.code X W k) (hS : ∀ l, xs3 (ix2 r l) = Spec.scale X W)
    (hf : ∃ f : ℝ, x5 (ix2 0 l) = (f : EReal)) (h : Fin 7) :
    out0_B_6 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 hc0 x0 x1 x2 x3 x4 x5 xs0 xs2 xs3 (ix3 h r l)
      = Spec.rope (Spec.even l)
          (Spec.proj X W (fun k => x2 (ix2 k ⟨128 * h.val + l.val, by omega⟩)) (x3 (ix2 0 ⟨128 * h.val + l.val, by omega⟩)))
          (Spec.proj X W (fun k => x2 (ix2 k ⟨128 * h.val + (Spec.partner l).val, by omega⟩)) (x3 (ix2 0 ⟨128 * h.val + (Spec.partner l).val, by omega⟩)))
          (Heads.angle x4 x5 r l) := by
  rw [out0_B_6, View.read_writes_junk_eq_canon, HeadRun.queries_eq]
  exact (Stack.canon_heads (R := 256) _ h r l).trans (HeadRun.rotated_apply (X := X) (W := W) (r := r) (l := l) (hC := hC) (hS := hS) (hf := hf) ..)

/-- The key head put out. -/
theorem key_B (X W : Fin 7168 → EReal) (r : Fin 256) (l : Fin 128)
    (hC : ∀ k, xs2 (ix2 r k) = Spec.code X W k) (hS : ∀ l, xs3 (ix2 r l) = Spec.scale X W)
    (hf : ∃ f : ℝ, x5 (ix2 0 l) = (f : EReal)) :
    out0_B_7 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 hc0 x0 x1 x2 x3 x4 x5 xs0 xs2 xs3 (ix3 (0 : Fin 1) r l)
      = Spec.rope (Spec.even l)
          (Spec.proj X W (fun k => x2 (ix2 k ⟨896 + l.val, by omega⟩)) (x3 (ix2 0 ⟨896 + l.val, by omega⟩)))
          (Spec.proj X W (fun k => x2 (ix2 k ⟨896 + (Spec.partner l).val, by omega⟩)) (x3 (ix2 0 ⟨896 + (Spec.partner l).val, by omega⟩)))
          (Heads.angle x4 x5 r l) := by
  rw [out0_B_7, View.read_writes_junk_eq_canon, HeadRun.key_eq, canon_whole3]
  exact HeadRun.rotated_apply (X := X) (W := W) (r := r) (l := l) (hC := hC) (hS := hS) (hf := hf) ..

/-- The value head put out. -/
theorem value_B (X W : Fin 7168 → EReal) (r : Fin 256) (l : Fin 128)
    (hC : ∀ k, xs2 (ix2 r k) = Spec.code X W k) (hS : ∀ l, xs3 (ix2 r l) = Spec.scale X W) :
    out0_B_8 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 hc0 x0 x1 x2 x3 x4 x5 xs0 xs2 xs3 (ix3 (0 : Fin 1) r l)
      = Spec.proj X W (fun k => x2 (ix2 k ⟨1024 + l.val, by omega⟩)) (x3 (ix2 0 ⟨1024 + l.val, by omega⟩)) := by
  rw [out0_B_8, View.read_writes_junk_eq_canon, HeadRun.value_eq, canon_whole3]
  exact HeadRun.plain_block_apply (X := X) (W := W) (r := r) (l := l) (hC := hC) (hS := hS) ..

end Later

end Cert.Blocks

end
-- ==== Proof.Operands.lean ====
/- UNTRUSTED — what each operand's block holds at a grid point, in terms of the arrays the kernel is called with. -/
module

public import proofs.«01_k».proof.Proof.Gen.KernelIdeal.Value
public import Idealize.ShloMosaic.Lib.Pointwise
public import Idealize.ShloMosaic.Lib.Claim
public import Idealize.ShloMosaic.Lib.Pipeline.ValueKit

@[expose] public section

set_option maxRecDepth 16384

noncomputable section

namespace Cert.Operands

open Idealize.ShloMosaic Idealize.ShloMosaic.TcCoe Idealize.SL.Sem Cert.KernelIdeal Cert.KernelIdeal.Gen
open Idealize.ShloMosaic.Pipeline (Dat)

/-- Where each block of activations, of positions and of results stands at a point. -/
theorem idx : ∀ t : Fin cfg0.N, win0_0.index t = ![min t.val 31, 0] ∧ win0_1.index t = ![0, 0] ∧ win0_2.index t = ![0, 0]
    ∧ win0_3.index t = ![0, 0] ∧ win0_4.index t = ![t.val - 1, 0, 0] ∧ win0_5.index t = ![0, 0]
    ∧ win0_6.index t = ![0, t.val - 1, 0] ∧ win0_7.index t = ![0, t.val - 1, 0] ∧ win0_8.index t = ![0, t.val - 1, 0]
    ∧ win0_9.index t = ![min t.val 31, 0] ∧ win0_10.index t = ![min t.val 31, 0, 0] :=
  (by decide +kernel : ∀ t : Fin grid0.N, _)

/-- Row `r` of the block of point `t`. -/
def rowAt (t : ℕ) (r : Fin 256) : Fin 8192 := ⟨256 * min t 31 + r.val, by omega⟩

variable (m : (ℓ : Loc nD τ sig) → Buf (Elt Ideal) ℓ) (c : Dev nD)

/-- The activations of the call. -/
abbrev argX : Vec Ideal S1x8192x7168 .bf16 := m ((c : Thread nD τ).loc main_arg0)
/-- The weights of the norm. -/
abbrev argW : Vec Ideal S7168 .bf16 := m ((c : Thread nD τ).loc main_arg1)
/-- The projection's codes. -/
abbrev argQ : Vec Ideal S7168x1152 .fp8e4m3 := m ((c : Thread nD τ).loc main_arg2)
/-- The projection's scales. -/
abbrev argS : Vec Ideal S1152 .f32 := m ((c : Thread nD τ).loc main_arg3)
/-- The positions. -/
abbrev argP : Vec Ideal S1x8192 .i32 := m ((c : Thread nD τ).loc main_arg4)

/-- A block of activations: 256 rows. -/
theorem x_blk (t : Fin cfg0.N) (r : Fin 256) (k : Fin 7168) :
    iblk m c 0 t (ix2 r k) = argX m c (ix3 0 (rowAt t.val r) k) := by
  blk_simp [iblk]
  entry_read
  have h : ((View.whole main_v0).slice (win0_0.rect t)).emb (ix2 r k : S256x7168.Idx) = ix2 (rowAt t.val r) k := by
    blk_ext [idx t, rowAt]
  rw [h]
  pointwise []

/-- The block of the norm's weights. -/
theorem w_blk (t : Fin cfg0.N) (k : Fin 7168) :
    iblk m c 1 t (ix2 0 k) = argW m c (ix1 k) := by
  blk_simp [iblk]
  entry_read
  have h : ((View.whole main_v1).slice (win0_1.rect t)).emb (ix2 0 k : S1x7168.Idx) = ix2 0 k := by
    blk_ext [idx t]
  rw [h]
  pointwise []

/-- The block of the projection's codes. -/
theorem q_blk (t : Fin cfg0.N) (k : Fin 7168) (n : Fin 1152) :
    iblk m c 2 t (ix2 k n) = argQ m c (ix2 k n) := by
  blk_ext [iblk, V, idx t]

/-- The block of the projection's scales. -/
theorem s_blk (t : Fin cfg0.N) (n : Fin 1152) :
    iblk m c 3 t (ix2 0 n) = argS m c (ix1 n) := by
  blk_simp [iblk]
  entry_read
  have h : ((View.whole main_v2).slice (win0_3.rect t)).emb (ix2 0 n : S1x1152.Idx) = ix2 0 n := by
    blk_ext [idx t]
  rw [h]
  pointwise []

/-- A block of positions: those of the block of rows before. -/
theorem p_blk (t : Fin cfg0.N) (r : Fin 256) :
    iblk m c 4 t (ix3 0 0 r) = argP m c (ix2 0 (rowAt (t.val - 1) r)) := by
  blk_simp [iblk]
  entry_read
  have h : ((View.whole main_v3).slice (win0_4.rect t)).emb (ix3 0 0 r : S1x1x256.Idx) = ix3 ⟨min (t.val - 1) 31, by omega⟩ 0 r := by
    have := t.isLt
    have : t.val < 33 := this
    blk_ext [idx t]
  rw [h]
  pointwise [rowAt]
  exact congrArg (fun j => argP m c (ix2 0 j)) (Fin.ext (show _ = _ by dsimp only; omega))

/-- The place of a lane in a table of one row is the lane. -/
theorem lane (l : Fin 128) : (S1x128.rowMajor (ix2 0 l)).val = l.val := by
  revert l; decide +kernel

/-- The block of frequencies: the table. -/
theorem f_blk (t : Fin cfg0.N) (l : Fin 128) :
    iblk m c 5 t (ix2 0 l) = Ideal.ofBits .f32 (lit0 l) := by
  blk_simp [iblk]
  entry_read
  have h : ((View.whole main_cst).slice (win0_5.rect t)).emb (ix2 0 l : S1x128.Idx) = ix2 0 l := by
    blk_ext [idx t]
  rw [h]
  exact congrArg (fun j : Fin 128 => Ideal.ofBits .f32 (lit0 j)) (Fin.ext (lane l))

end Cert.Operands

end
-- ==== Proof.Arrays.lean ====
/- UNTRUSTED — the kernel's five result arrays: what is carried from point to point, and what every block written back holds. -/
module

public import proofs.«01_k».proof.Proof.Answer
public import proofs.«01_k».proof.Proof.Blocks
public import proofs.«01_k».proof.Proof.Operands

@[expose] public section

set_option maxRecDepth 16384

noncomputable section

namespace Cert.Arrays

open Idealize.ShloMosaic Idealize.ShloMosaic.TcCoe Idealize.SL.Sem Cert.KernelIdeal Cert.KernelIdeal.Gen Cert.Operands
open Idealize.ShloMosaic.Pipeline (Dat)

variable (m : (ℓ : Loc nD τ sig) → Buf (Elt Ideal) ℓ) (c : Dev nD)

/-- The kernel's frequencies. -/
def freq (l : Fin 128) : EReal := Ideal.ofBits .f32 (lit0 l)

/-- Every frequency is a real number. -/
theorem freq_real (l : Fin 128) : ∃ f : ℝ, freq l = (f : EReal) := by
  refine Row.ofBits_real _ ?_
  revert l
  decide +kernel

/-- What the point before left. -/
abbrev before (t : Fin cfg0.N) := outsAt0 m c (t.val - 1) (Nat.lt_of_le_of_lt (Nat.sub_le _ _) t.isLt)

/-- The first point keeps the norm's weights … -/
theorem row_first (t : Fin cfg0.N) (h : t.val % 33 = 0) (k : Fin 7168) :
    (outsAt0 m c t.val t.isLt).2.2.2.2.2.1 (ix2 (0 : Fin 1) k) = Answer.wgt (argW m c) k := by
  have e := congrArg (fun o => o.2.2.2.2.2.1) (outsAt0_A m c t h)
  dsimp only at e
  have b := Blocks.row_A c (grid0.coords t) (ms0_0 t) (ms0_1 t) (ms0_2 t) (ms0_3 t) (ms0_4 t) (ms0_5 t) (ms0_6 t) (ms0_7 t) (ms0_8 t) (ms0_9 t) (ms0_10 t) scM0_0 scM0_1 scM0_2 scM0_3
        (hs0_0 t) (hs0_1 t) (hs0_2 t) (hs0_3 t) (hs0_4 t) (hs0_5 t) (hs0_6 t) (hs0_7 t) (hs0_8 t) (hs0_9 t) (hs0_10 t) (Memref.isWhole_whole _) (Memref.isWhole_whole _) (Memref.isWhole_whole _) (Memref.isWhole_whole _)
        (iblk m c 0 t) (iblk m c 1 t) (iblk m c 2 t) (iblk m c 3 t) (iblk m c 4 t) (iblk m c 5 t)
        ((hcond0_0 t).mpr h) k
  rw [← e] at b
  exact b.trans (w_blk m c t k)

/-- … a later point leaves what the point before left … -/
theorem row_later (t : Fin cfg0.N) (h : ¬t.val % 33 = 0) :
    (outsAt0 m c t.val t.isLt).2.2.2.2.2.1 = (before m c t).2.2.2.2.2.1 := by
  have e := congrArg (fun o => o.2.2.2.2.2.1) (outsAt0_B m c t h)
  dsimp only at e
  rw [e, sout0_B_0]

/-- … and so they stand after every point. -/
theorem row_at (n : ℕ) : ∀ (hn : n < cfg0.N) (k : Fin 7168),
    (outsAt0 m c n hn).2.2.2.2.2.1 (ix2 (0 : Fin 1) k) = Answer.wgt (argW m c) k := by
  induction n with
  | zero =>
    intro hn k
    exact row_first m c ⟨0, hn⟩ rfl k
  | succ n ih =>
    intro hn k
    have h : ¬ (⟨n + 1, hn⟩ : Fin cfg0.N).val % 33 = 0 := by
      have : n + 1 < 33 := hn
      show ¬ (n + 1) % 33 = 0
      omega
    exact (congrFun (row_later m c ⟨n + 1, hn⟩ h) (ix2 (0 : Fin 1) k)).trans (ih _ k)

/-- A row of a block of activations is its token's activations. -/
theorem tok_eq (t : Fin cfg0.N) (r : Fin 256) :
    (fun k => iblk m c 0 t (ix2 r k)) = Answer.tok (argX m c) (rowAt t.val r) := funext fun k => x_blk m c t r k

/-- The block of the norm's weights is the weights. -/
theorem first_wgt (t : Fin cfg0.N) : (fun k => iblk m c 1 t (ix2 0 k)) = Answer.wgt (argW m c) :=
  funext fun k => w_blk m c t k

/-- The weights kept by the point before are the weights. -/
theorem later_wgt (t : Fin cfg0.N) : (fun k => (before m c t).2.2.2.2.2.1 (ix2 (0 : Fin 1) k)) = Answer.wgt (argW m c) :=
  funext fun k => row_at m c _ _ k

/-- The codes put out at a point are those of its rows. -/
theorem codes_at (t : Fin cfg0.N) (r : Fin 256) (k : Fin 7168) :
    (outsAt0 m c t.val t.isLt).2.2.2.1 (ix2 r k)
      = Spec.code (Answer.tok (argX m c) (rowAt t.val r)) (Answer.wgt (argW m c)) k := by
  by_cases h : t.val % 33 = 0
  · have e := congrArg (fun o => o.2.2.2.1) (outsAt0_A m c t h)
    dsimp only at e
    have b := Blocks.codes_A c (grid0.coords t) (ms0_0 t) (ms0_1 t) (ms0_2 t) (ms0_3 t) (ms0_4 t) (ms0_5 t) (ms0_6 t) (ms0_7 t) (ms0_8 t) (ms0_9 t) (ms0_10 t) scM0_0 scM0_1 scM0_2 scM0_3
        (hs0_0 t) (hs0_1 t) (hs0_2 t) (hs0_3 t) (hs0_4 t) (hs0_5 t) (hs0_6 t) (hs0_7 t) (hs0_8 t) (hs0_9 t) (hs0_10 t) (Memref.isWhole_whole _) (Memref.isWhole_whole _) (Memref.isWhole_whole _) (Memref.isWhole_whole _)
        (iblk m c 0 t) (iblk m c 1 t) (iblk m c 2 t) (iblk m c 3 t) (iblk m c 4 t) (iblk m c 5 t)
        ((hcond0_0 t).mpr h) r k
    rw [← e] at b
    exact b.trans (congrArg₂ (fun a b => Spec.code a b k) (tok_eq m c t r) (first_wgt m c t))
  · have e := congrArg (fun o => o.2.2.2.1) (outsAt0_B m c t h)
    dsimp only at e
    have b := Blocks.codes_B c (grid0.coords t) (ms0_0 t) (ms0_1 t) (ms0_2 t) (ms0_3 t) (ms0_4 t) (ms0_5 t) (ms0_6 t) (ms0_7 t) (ms0_8 t) (ms0_9 t) (ms0_10 t) scM0_0 scM0_1 scM0_2 scM0_3
        (hs0_0 t) (hs0_1 t) (hs0_2 t) (hs0_3 t) (hs0_4 t) (hs0_5 t) (hs0_6 t) (hs0_7 t) (hs0_8 t) (hs0_9 t) (hs0_10 t) (Memref.isWhole_whole _) (Memref.isWhole_whole _) (Memref.isWhole_whole _) (Memref.isWhole_whole _)
        (iblk m c 0 t) (iblk m c 1 t) (iblk m c 2 t) (iblk m c 3 t) (iblk m c 4 t) (iblk m c 5 t)
        (fun h' => h ((hcond0_0 t).mp h')) (before m c t).2.2.2.2.2.1 (before m c t).2.2.2.2.2.2.1 (before m c t).2.2.2.2.2.2.2 r k
    rw [← e] at b
    exact b.trans (congrArg₂ (fun a b => Spec.code a b k) (tok_eq m c t r) (later_wgt m c t))

/-- So are the codes kept … -/
theorem kept_at (t : Fin cfg0.N) (r : Fin 256) (k : Fin 7168) :
    (outsAt0 m c t.val t.isLt).2.2.2.2.2.2.1 (ix2 r k)
      = Spec.code (Answer.tok (argX m c) (rowAt t.val r)) (Answer.wgt (argW m c)) k := by
  by_cases h : t.val % 33 = 0
  · have e := congrArg (fun o => o.2.2.2.2.2.2.1) (outsAt0_A m c t h)
    dsimp only at e
    have b := Blocks.kept_A c (grid0.coords t) (ms0_0 t) (ms0_1 t) (ms0_2 t) (ms0_3 t) (ms0_4 t) (ms0_5 t) (ms0_6 t) (ms0_7 t) (ms0_8 t) (ms0_9 t) (ms0_10 t) scM0_0 scM0_1 scM0_2 scM0_3
        (hs0_0 t) (hs0_1 t) (hs0_2 t) (hs0_3 t) (hs0_4 t) (hs0_5 t) (hs0_6 t) (hs0_7 t) (hs0_8 t) (hs0_9 t) (hs0_10 t) (Memref.isWhole_whole _) (Memref.isWhole_whole _) (Memref.isWhole_whole _) (Memref.isWhole_whole _)
        (iblk m c 0 t) (iblk m c 1 t) (iblk m c 2 t) (iblk m c 3 t) (iblk m c 4 t) (iblk m c 5 t)
        ((hcond0_0 t).mpr h) r k
    rw [← e] at b
    exact b.trans (congrArg₂ (fun a b => Spec.code a b k) (tok_eq m c t r) (first_wgt m c t))
  · have e := congrArg (fun o => o.2.2.2.2.2.2.1) (outsAt0_B m c t h)
    dsimp only at e
    have b := Blocks.kept_B c (grid0.coords t) (ms0_0 t) (ms0_1 t) (ms0_2 t) (ms0_3 t) (ms0_4 t) (ms0_5 t) (ms0_6 t) (ms0_7 t) (ms0_8 t) (ms0_9 t) (ms0_10 t) scM0_0 scM0_1 scM0_2 scM0_3
        (hs0_0 t) (hs0_1 t) (hs0_2 t) (hs0_3 t) (hs0_4 t) (hs0_5 t) (hs0_6 t) (hs0_7 t) (hs0_8 t) (hs0_9 t) (hs0_10 t) (Memref.isWhole_whole _) (Memref.isWhole_whole _) (Memref.isWhole_whole _) (Memref.isWhole_whole _)
        (iblk m c 0 t) (iblk m c 1 t) (iblk m c 2 t) (iblk m c 3 t) (iblk m c 4 t) (iblk m c 5 t)
        (fun h' => h ((hcond0_0 t).mp h')) (before m c t).2.2.2.2.2.1 (before m c t).2.2.2.2.2.2.1 (before m c t).2.2.2.2.2.2.2 r k
    rw [← e] at b
    exact b.trans (congrArg₂ (fun a b => Spec.code a b k) (tok_eq m c t r) (later_wgt m c t))

/-- … and the scales kept. -/
theorem scales_at (t : Fin cfg0.N) (r : Fin 256) (l : Fin 128) :
    (outsAt0 m c t.val t.isLt).2.2.2.2.2.2.2 (ix2 r l)
      = Spec.scale (Answer.tok (argX m c) (rowAt t.val r)) (Answer.wgt (argW m c)) := by
  by_cases h : t.val % 33 = 0
  · have e := congrArg (fun o => o.2.2.2.2.2.2.2) (outsAt0_A m c t h)
    dsimp only at e
    have b := Blocks.scales_A c (grid0.coords t) (ms0_0 t) (ms0_1 t) (ms0_2 t) (ms0_3 t) (ms0_4 t) (ms0_5 t) (ms0_6 t) (ms0_7 t) (ms0_8 t) (ms0_9 t) (ms0_10 t) scM0_0 scM0_1 scM0_2 scM0_3
        (hs0_0 t) (hs0_1 t) (hs0_2 t) (hs0_3 t) (hs0_4 t) (hs0_5 t) (hs0_6 t) (hs0_7 t) (hs0_8 t) (hs0_9 t) (hs0_10 t) (Memref.isWhole_whole _) (Memref.isWhole_whole _) (Memref.isWhole_whole _) (Memref.isWhole_whole _)
        (iblk m c 0 t) (iblk m c 1 t) (iblk m c 2 t) (iblk m c 3 t) (iblk m c 4 t) (iblk m c 5 t)
        ((hcond0_0 t).mpr h) r l
    rw [← e] at b
    exact b.trans (congrArg₂ (fun a b => Spec.scale a b) (tok_eq m c t r) (first_wgt m c t))
  · have e := congrArg (fun o => o.2.2.2.2.2.2.2) (outsAt0_B m c t h)
    dsimp only at e
    have b := Blocks.scales_B c (grid0.coords t) (ms0_0 t) (ms0_1 t) (ms0_2 t) (ms0_3 t) (ms0_4 t) (ms0_5 t) (ms0_6 t) (ms0_7 t) (ms0_8 t) (ms0_9 t) (ms0_10 t) scM0_0 scM0_1 scM0_2 scM0_3
        (hs0_0 t) (hs0_1 t) (hs0_2 t) (hs0_3 t) (hs0_4 t) (hs0_5 t) (hs0_6 t) (hs0_7 t) (hs0_8 t) (hs0_9 t) (hs0_10 t) (Memref.isWhole_whole _) (Memref.isWhole_whole _) (Memref.isWhole_whole _) (Memref.isWhole_whole _)
        (iblk m c 0 t) (iblk m c 1 t) (iblk m c 2 t) (iblk m c 3 t) (iblk m c 4 t) (iblk m c 5 t)
        (fun h' => h ((hcond0_0 t).mp h')) (before m c t).2.2.2.2.2.1 (before m c t).2.2.2.2.2.2.1 (before m c t).2.2.2.2.2.2.2 r l
    rw [← e] at b
    exact b.trans (congrArg₂ (fun a b => Spec.scale a b) (tok_eq m c t r) (later_wgt m c t))

/-- The scales put out. -/
theorem out_scales_at (t : Fin cfg0.N) (r : Fin 256) :
    (outsAt0 m c t.val t.isLt).2.2.2.2.1 (ix3 (0 : Fin 1) (0 : Fin 1) r)
      = Spec.scale (Answer.tok (argX m c) (rowAt t.val r)) (Answer.wgt (argW m c)) := by
  by_cases h : t.val % 33 = 0
  · have e := congrArg (fun o => o.2.2.2.2.1) (outsAt0_A m c t h)
    dsimp only at e
    have b := Blocks.out_scales_A c (grid0.coords t) (ms0_0 t) (ms0_1 t) (ms0_2 t) (ms0_3 t) (ms0_4 t) (ms0_5 t) (ms0_6 t) (ms0_7 t) (ms0_8 t) (ms0_9 t) (ms0_10 t) scM0_0 scM0_1 scM0_2 scM0_3
        (hs0_0 t) (hs0_1 t) (hs0_2 t) (hs0_3 t) (hs0_4 t) (hs0_5 t) (hs0_6 t) (hs0_7 t) (hs0_8 t) (hs0_9 t) (hs0_10 t) (Memref.isWhole_whole _) (Memref.isWhole_whole _) (Memref.isWhole_whole _) (Memref.isWhole_whole _)
        (iblk m c 0 t) (iblk m c 1 t) (iblk m c 2 t) (iblk m c 3 t) (iblk m c 4 t) (iblk m c 5 t)
        ((hcond0_0 t).mpr h) r
    rw [← e] at b
    exact b.trans (congrArg₂ (fun a b => Spec.scale a b) (tok_eq m c t r) (first_wgt m c t))
  · have e := congrArg (fun o => o.2.2.2.2.1) (outsAt0_B m c t h)
    dsimp only at e
    have b := Blocks.out_scales_B c (grid0.coords t) (ms0_0 t) (ms0_1 t) (ms0_2 t) (ms0_3 t) (ms0_4 t) (ms0_5 t) (ms0_6 t) (ms0_7 t) (ms0_8 t) (ms0_9 t) (ms0_10 t) scM0_0 scM0_1 scM0_2 scM0_3
        (hs0_0 t) (hs0_1 t) (hs0_2 t) (hs0_3 t) (hs0_4 t) (hs0_5 t) (hs0_6 t) (hs0_7 t) (hs0_8 t) (hs0_9 t) (hs0_10 t) (Memref.isWhole_whole _) (Memref.isWhole_whole _) (Memref.isWhole_whole _) (Memref.isWhole_whole _)
        (iblk m c 0 t) (iblk m c 1 t) (iblk m c 2 t) (iblk m c 3 t) (iblk m c 4 t) (iblk m c 5 t)
        (fun h' => h ((hcond0_0 t).mp h')) (before m c t).2.2.2.2.2.1 (before m c t).2.2.2.2.2.2.1 (before m c t).2.2.2.2.2.2.2 r
    rw [← e] at b
    exact b.trans (congrArg₂ (fun a b => Spec.scale a b) (tok_eq m c t r) (later_wgt m c t))

/-- A frequency as a block of the table holds it. -/
theorem freq_blk (t : Fin cfg0.N) (l : Fin 128) : ∃ f : ℝ, iblk m c 5 t (ix2 0 l) = (f : EReal) := by
  obtain ⟨f, hf⟩ := freq_real l
  exact ⟨f, (f_blk m c t l).trans hf⟩

/-- A row's angle at a lane. -/
theorem angle_at (t : Fin cfg0.N) (r : Fin 256) (l : Fin 128) :
    Heads.angle (iblk m c 4 t) (iblk m c 5 t) r l = Answer.angle (argP m c) freq (rowAt (t.val - 1) r) l := by
  rw [Heads.angle, p_blk, f_blk]
  rfl

/-- The query heads put out at a later point are those of the point before. -/
theorem queries_at (t : Fin cfg0.N) (h : ¬t.val % 33 = 0) (h7 : Fin 7) (r : Fin 256) (l : Fin 128) :
    (outsAt0 m c t.val t.isLt).1 (ix3 h7 r l) = Answer.queryAt (argX m c) (argW m c) (argQ m c) (argS m c) (argP m c) freq h7 (rowAt (t.val - 1) r) l := by
  have e := congrArg (fun o => o.1) (outsAt0_B m c t h)
  dsimp only at e
  have b := Blocks.queries_B c (grid0.coords t) (ms0_0 t) (ms0_1 t) (ms0_2 t) (ms0_3 t) (ms0_4 t) (ms0_5 t) (ms0_6 t) (ms0_7 t) (ms0_8 t) (ms0_9 t) (ms0_10 t) scM0_0 scM0_1 scM0_2 scM0_3
        (hs0_0 t) (hs0_1 t) (hs0_2 t) (hs0_3 t) (hs0_4 t) (hs0_5 t) (hs0_6 t) (hs0_7 t) (hs0_8 t) (hs0_9 t) (hs0_10 t) (Memref.isWhole_whole _) (Memref.isWhole_whole _) (Memref.isWhole_whole _) (Memref.isWhole_whole _)
        (iblk m c 0 t) (iblk m c 1 t) (iblk m c 2 t) (iblk m c 3 t) (iblk m c 4 t) (iblk m c 5 t)
        (fun h' => h ((hcond0_0 t).mp h')) (before m c t).2.2.2.2.2.1 (before m c t).2.2.2.2.2.2.1 (before m c t).2.2.2.2.2.2.2
    (Answer.tok (argX m c) (rowAt (t.val - 1) r)) (Answer.wgt (argW m c)) r l
    (fun k => kept_at m c ⟨t.val - 1, Nat.lt_of_le_of_lt (Nat.sub_le _ _) t.isLt⟩ r k)
    (fun l => scales_at m c ⟨t.val - 1, Nat.lt_of_le_of_lt (Nat.sub_le _ _) t.isLt⟩ r l) (freq_blk m c t l) h7
  rw [← e] at b
  refine b.trans ?_
  rw [angle_at m c t r l]
  simp only [s_blk, q_blk]
  rfl

/-- The key head. -/
theorem key_at (t : Fin cfg0.N) (h : ¬t.val % 33 = 0) (r : Fin 256) (l : Fin 128) :
    (outsAt0 m c t.val t.isLt).2.1 (ix3 (0 : Fin 1) r l) = Answer.keyAt (argX m c) (argW m c) (argQ m c) (argS m c) (argP m c) freq (rowAt (t.val - 1) r) l := by
  have e := congrArg (fun o => o.2.1) (outsAt0_B m c t h)
  dsimp only at e
  have b := Blocks.key_B c (grid0.coords t) (ms0_0 t) (ms0_1 t) (ms0_2 t) (ms0_3 t) (ms0_4 t) (ms0_5 t) (ms0_6 t) (ms0_7 t) (ms0_8 t) (ms0_9 t) (ms0_10 t) scM0_0 scM0_1 scM0_2 scM0_3
        (hs0_0 t) (hs0_1 t) (hs0_2 t) (hs0_3 t) (hs0_4 t) (hs0_5 t) (hs0_6 t) (hs0_7 t) (hs0_8 t) (hs0_9 t) (hs0_10 t) (Memref.isWhole_whole _) (Memref.isWhole_whole _) (Memref.isWhole_whole _) (Memref.isWhole_whole _)
        (iblk m c 0 t) (iblk m c 1 t) (iblk m c 2 t) (iblk m c 3 t) (iblk m c 4 t) (iblk m c 5 t)
        (fun h' => h ((hcond0_0 t).mp h')) (before m c t).2.2.2.2.2.1 (before m c t).2.2.2.2.2.2.1 (before m c t).2.2.2.2.2.2.2
    (Answer.tok (argX m c) (rowAt (t.val - 1) r)) (Answer.wgt (argW m c)) r l
    (fun k => kept_at m c ⟨t.val - 1, Nat.lt_of_le_of_lt (Nat.sub_le _ _) t.isLt⟩ r k)
    (fun l => scales_at m c ⟨t.val - 1, Nat.lt_of_le_of_lt (Nat.sub_le _ _) t.isLt⟩ r l) (freq_blk m c t l)
  rw [← e] at b
  refine b.trans ?_
  rw [angle_at m c t r l]
  simp only [s_blk, q_blk]
  rfl

/-- The value head. -/
theorem value_at (t : Fin cfg0.N) (h : ¬t.val % 33 = 0) (r : Fin 256) (l : Fin 128) :
    (outsAt0 m c t.val t.isLt).2.2.1 (ix3 (0 : Fin 1) r l) = Answer.valueAt (argX m c) (argW m c) (argQ m c) (argS m c) (rowAt (t.val - 1) r) l := by
  have e := congrArg (fun o => o.2.2.1) (outsAt0_B m c t h)
  dsimp only at e
  have b := Blocks.value_B c (grid0.coords t) (ms0_0 t) (ms0_1 t) (ms0_2 t) (ms0_3 t) (ms0_4 t) (ms0_5 t) (ms0_6 t) (ms0_7 t) (ms0_8 t) (ms0_9 t) (ms0_10 t) scM0_0 scM0_1 scM0_2 scM0_3
        (hs0_0 t) (hs0_1 t) (hs0_2 t) (hs0_3 t) (hs0_4 t) (hs0_5 t) (hs0_6 t) (hs0_7 t) (hs0_8 t) (hs0_9 t) (hs0_10 t) (Memref.isWhole_whole _) (Memref.isWhole_whole _) (Memref.isWhole_whole _) (Memref.isWhole_whole _)
        (iblk m c 0 t) (iblk m c 1 t) (iblk m c 2 t) (iblk m c 3 t) (iblk m c 4 t) (iblk m c 5 t)
        (fun h' => h ((hcond0_0 t).mp h')) (before m c t).2.2.2.2.2.1 (before m c t).2.2.2.2.2.2.1 (before m c t).2.2.2.2.2.2.2
    (Answer.tok (argX m c) (rowAt (t.val - 1) r)) (Answer.wgt (argW m c)) r l
    (fun k => kept_at m c ⟨t.val - 1, Nat.lt_of_le_of_lt (Nat.sub_le _ _) t.isLt⟩ r k)
    (fun l => scales_at m c ⟨t.val - 1, Nat.lt_of_le_of_lt (Nat.sub_le _ _) t.isLt⟩ r l)
  rw [← e] at b
  refine b.trans ?_
  simp only [s_blk, q_blk]
  rfl

end Cert.Arrays

end
-- ==== Proof.Final.lean ====
/- UNTRUSTED — the kernel's five result arrays after the last grid point are the answer's. -/
module

public import proofs.«01_k».proof.Proof.Arrays
public import Idealize.ShloMosaic.Lib.Pipeline.ValueKit

@[expose] public section

set_option maxRecDepth 16384

noncomputable section

namespace Cert.Final

open Idealize.ShloMosaic Idealize.ShloMosaic.TcCoe Idealize.SL.Sem Cert.KernelIdeal Cert.KernelIdeal.Gen Cert.Operands
open Idealize.ShloMosaic.Pipeline (Dat)

variable (m : (ℓ : Loc nD τ sig) → Buf (Elt Ideal) ℓ) (c : Dev nD)

/-- The blocks of heads are written back at the points after the first. -/
theorem flush_later : ∀ t : Fin cfg0.N, ((cfg0.win 6).flush t = true ∨ (cfg0.win 7).flush t = true ∨ (cfg0.win 8).flush t = true) →
    ¬t.val % 33 = 0 :=
  (by decide +kernel : ∀ t : Fin grid0.N, _)

/-- A block of codes written back is the array's. -/
theorem codes_blk (t : Fin cfg0.N) (y : S256x7168.Idx) :
    (outsAt0 m c t.val t.isLt).2.2.2.1 y = Answer.codes (argX m c) (argW m c) ((win0_9.blk t).view.emb y) := by
  obtain ⟨r, k, rfl⟩ : ∃ (r : Fin 256) (k : Fin 7168), y = (ix2 r k : S256x7168.Idx) :=
    ⟨y 0, y 1, funext fun a => match a with | 0 => rfl | 1 => rfl⟩
  have lt : t.val < 33 := t.isLt
  have he : (win0_9.blk t).view.emb (ix2 r k : S256x7168.Idx) = ix2 (rowAt t.val r) k := by
    blk_ext [idx t, rowAt]
  rw [he]
  exact Arrays.codes_at m c t r k

/-- The array. -/
theorem codes : (dats m 0 c).arrAt 9 cfg0.N = Answer.codes (argX m c) (argW m c) := by
  refine (dats m 0 c).arrAt_eq_of_covers 9 (Answer.codes (argX m c) (argW m c)) (by decide +kernel) fun t hf y => ?_
  blk_simp
  rw [after0_9]
  exact codes_blk m c t y

/-- A block of query heads. -/
theorem queries_blk (t : Fin cfg0.N) (h : ¬t.val % 33 = 0) (y : S7x256x128.Idx) :
    (outsAt0 m c t.val t.isLt).1 y = Answer.queries (argX m c) (argW m c) (argQ m c) (argS m c) (argP m c) Arrays.freq ((win0_6.blk t).view.emb y) := by
  obtain ⟨h7, r, l, rfl⟩ : ∃ (h7 : Fin 7) (r : Fin 256) (l : Fin 128), y = (ix3 h7 r l : S7x256x128.Idx) :=
    ⟨y 0, y 1, y 2, funext fun a => match a with | 0 => rfl | 1 => rfl | 2 => rfl⟩
  have lt : t.val < 33 := t.isLt
  have he : (win0_6.blk t).view.emb (ix3 h7 r l : S7x256x128.Idx) = ix3 h7 (rowAt (t.val - 1) r) l := by
    blk_ext [idx t, rowAt]
  rw [he]
  exact Arrays.queries_at m c t h h7 r l

/-- The array. -/
theorem queries : (dats m 0 c).arrAt 6 cfg0.N = Answer.queries (argX m c) (argW m c) (argQ m c) (argS m c) (argP m c) Arrays.freq := by
  refine (dats m 0 c).arrAt_eq_of_covers 6 (Answer.queries (argX m c) (argW m c) (argQ m c) (argS m c) (argP m c) Arrays.freq) (by decide +kernel) fun t hf y => ?_
  blk_simp
  rw [after0_6]
  exact queries_blk m c t (flush_later t (.inl hf)) y

/-- A block of the key head. -/
theorem key_blk (t : Fin cfg0.N) (h : ¬t.val % 33 = 0) (y : S1x256x128.Idx) :
    (outsAt0 m c t.val t.isLt).2.1 y = Answer.key (argX m c) (argW m c) (argQ m c) (argS m c) (argP m c) Arrays.freq ((win0_7.blk t).view.emb y) := by
  obtain ⟨r, l, rfl⟩ : ∃ (r : Fin 256) (l : Fin 128), y = (ix3 (0 : Fin 1) r l : S1x256x128.Idx) :=
    ⟨y 1, y 2, funext fun a => match a with | 0 => Subsingleton.elim (α := Fin 1) _ _ | 1 => rfl | 2 => rfl⟩
  have lt : t.val < 33 := t.isLt
  have he : (win0_7.blk t).view.emb (ix3 (0 : Fin 1) r l : S1x256x128.Idx) = ix3 (0 : Fin 1) (rowAt (t.val - 1) r) l := by
    blk_ext [idx t, rowAt]
  rw [he]
  exact Arrays.key_at m c t h r l

/-- The array. -/
theorem key : (dats m 0 c).arrAt 7 cfg0.N = Answer.key (argX m c) (argW m c) (argQ m c) (argS m c) (argP m c) Arrays.freq := by
  refine (dats m 0 c).arrAt_eq_of_covers 7 (Answer.key (argX m c) (argW m c) (argQ m c) (argS m c) (argP m c) Arrays.freq) (by decide +kernel) fun t hf y => ?_
  blk_simp
  rw [after0_7]
  exact key_blk m c t (flush_later t (.inr (.inl hf))) y

/-- A block of the value head. -/
theorem value_blk (t : Fin cfg0.N) (h : ¬t.val % 33 = 0) (y : S1x256x128.Idx) :
    (outsAt0 m c t.val t.isLt).2.2.1 y = Answer.value (argX m c) (argW m c) (argQ m c) (argS m c) ((win0_8.blk t).view.emb y) := by
  obtain ⟨r, l, rfl⟩ : ∃ (r : Fin 256) (l : Fin 128), y = (ix3 (0 : Fin 1) r l : S1x256x128.Idx) :=
    ⟨y 1, y 2, funext fun a => match a with | 0 => Subsingleton.elim (α := Fin 1) _ _ | 1 => rfl | 2 => rfl⟩
  have lt : t.val < 33 := t.isLt
  have he : (win0_8.blk t).view.emb (ix3 (0 : Fin 1) r l : S1x256x128.Idx) = ix3 (0 : Fin 1) (rowAt (t.val - 1) r) l := by
    blk_ext [idx t, rowAt]
  rw [he]
  exact Arrays.value_at m c t h r l

/-- The array. -/
theorem value : (dats m 0 c).arrAt 8 cfg0.N = Answer.value (argX m c) (argW m c) (argQ m c) (argS m c) := by
  refine (dats m 0 c).arrAt_eq_of_covers 8 (Answer.value (argX m c) (argW m c) (argQ m c) (argS m c)) (by decide +kernel) fun t hf y => ?_
  blk_simp
  rw [after0_8]
  exact value_blk m c t (flush_later t (.inr (.inr hf))) y

/-- A row of scales. -/
theorem scales_blk (t : Fin cfg0.N) (y : S1x1x256.Idx) :
    (outsAt0 m c t.val t.isLt).2.2.2.2.1 y = Answer.scales (argX m c) (argW m c) ((win0_10.blk t).view.emb y) := by
  obtain ⟨r, rfl⟩ : ∃ (r : Fin 256), y = (ix3 (0 : Fin 1) (0 : Fin 1) r : S1x1x256.Idx) :=
    ⟨y 2, funext fun a => match a with | 0 => Subsingleton.elim (α := Fin 1) _ _ | 1 => Subsingleton.elim (α := Fin 1) _ _ | 2 => rfl⟩
  have lt : t.val < 33 := t.isLt
  have he : (win0_10.blk t).view.emb (ix3 (0 : Fin 1) (0 : Fin 1) r : S1x1x256.Idx) = ix3 ⟨min t.val 31, by omega⟩ (0 : Fin 1) r := by
    blk_ext [idx t, rowAt]
  rw [he]
  exact Arrays.out_scales_at m c t r

/-- The array. -/
theorem scales : (dats m 0 c).arrAt 10 cfg0.N = Answer.scales (argX m c) (argW m c) := by
  refine (dats m 0 c).arrAt_eq_of_covers 10 (Answer.scales (argX m c) (argW m c)) (by decide +kernel) fun t hf y => ?_
  blk_simp
  rw [after0_10]
  exact scales_blk m c t y

end Cert.Final

end
-- ==== Proof.RefBlock.lean ====
/- UNTRUSTED — what the reference computes from its six operands, entry by entry: the exponents, the codes, the scales, the
   projection and the rotated heads are the row's mathematics of Spec. -/
module

public import proofs.«01_k».proof.Proof.Gen.ReferenceIdeal.Skeleton
public import proofs.«01_k».proof.Proof.Spec
public import Idealize.ShloMosaic.Lib.Pointwise

@[expose] public section

set_option maxRecDepth 16384

noncomputable section

namespace Cert.RefBlock

open Idealize.ShloMosaic Cert.ReferenceIdeal Cert.ReferenceIdeal.Gen
open scoped BigOperators

variable (x : Vec Ideal S8192x7168 .bf16) (w : Vec Ideal S1x7168 .bf16) (wq : Vec Ideal S7168x1152 .fp8e4m3)
  (ws : Vec Ideal S1x1152 .f32) (pos : Vec Ideal S8192x1 .i32) (freq : Vec Ideal S1x128 .f32)

/-- A token's activations. -/
def row (r : Fin 8192) (k : Fin 7168) : EReal := x (ix2 r k)

/-- The weights of the normalisation. -/
def wrow (k : Fin 7168) : EReal := w (ix2 0 k)

/-- A column of the projection's weights. -/
def col (n : Fin 1152) (k : Fin 7168) : EReal := wq (ix2 k n)

/-- The normalised row. -/
theorem norm_apply (r : Fin 8192) (k : Fin 7168) : k0_pay5 x w (ix2 r k) = Spec.norm (row x r) (wrow w) k := by
  pointwise [k0_pay5, Spec.norm, Spec.inv, row, wrow]

/-- A column of 8192 values scaled, from the row of them. -/
theorem column_of (q : FVec Ideal S8192 .f32) (r : Fin 8192) :
    mulf (shapeCast S8192x1 q shapeCasts_S8192_S8192x1) (broadcast S8192x1 (Scalar.ofBits .f32 0x3B124925#32)) (ix2 r 0)
    = q (ix1 r) * Ideal.ofBits .f32 0x3B124925#32 := by
  pointwise

/-- The greatest entry of a row. -/
theorem fold_of (v : FVec Ideal S8192x7168 .f32) (r : Fin 8192) :
    multiReduction .maximumf [1] S8192 v 0xFF800000#32 reduces_S8192x7168_S8192 (.inl rfl) rfl (ix1 r)
    = (Finset.univ : Finset (Fin 7168)).fold max (Ideal.ofBits .f32 0xFF800000#32) (fun k => v (ix2 r k)) := by
  refine (Ideal.multiReduction_maximumf_single (a := 1) v _ reduces_S8192x7168_S8192 (.inl rfl) rfl (ix1 r)).trans ?_
  refine congrArg (fun f => (Finset.univ : Finset (Fin 7168)).fold max (Ideal.ofBits .f32 0xFF800000#32) f) (funext fun k => ?_)
  refine congrArg v (funext fun a => ?_)
  match a with
  | 0 => rfl
  | 1 => rfl

/-- The peak of a row, from the magnitudes. -/
theorem peak_apply (v : FVec Ideal S8192x7168 .f32) (r : Fin 8192) :
    mulf (shapeCast S8192x1 (multiReduction .maximumf [1] S8192 v 0xFF800000#32 reduces_S8192x7168_S8192 (.inl rfl) rfl)
      shapeCasts_S8192_S8192x1) (broadcast S8192x1 (Scalar.ofBits .f32 0x3B124925#32)) (ix2 r 0)
    = (Finset.univ : Finset (Fin 7168)).fold max (Ideal.ofBits .f32 0xFF800000#32) (fun k => v (ix2 r k))
      * Ideal.ofBits .f32 0x3B124925#32 :=
  (column_of _ r).trans (congrArg (fun z => z * Ideal.ofBits .f32 0x3B124925#32) (fold_of v r))

/-- A magnitude. -/
theorem abs_of (v : FVec Ideal S8192x7168 .f32) (j : S8192x7168.Idx) : absf v j = max (v j) (-(v j)) := rfl

/-- The exponent, from the peak. -/
theorem expo_of (z : FVec Ideal S8192x1 .f32) (j : S8192x1.Idx) :
    select (cmpf .oeq z (broadcast S8192x1 (Scalar.ofBits .f32 0x00000000#32)))
      (broadcast S8192x1 (Scalar.ofBits .f32 0x00000000#32))
      (addf (floor (divf (log z) (log (broadcast S8192x1 (Scalar.ofBits .f32 0x40000000#32)))))
        (broadcast S8192x1 (Scalar.ofBits .f32 0x3F800000#32))) j
    = Spec.expoOf (z j) (Ideal.div (Ideal.log (z j)) (Ideal.log (Ideal.ofBits .f32 0x40000000#32))) := rfl

/-- The exponent of a row's scale. -/
theorem expo_apply (r : Fin 8192) : k0_pay6 x w (ix2 r 0) = Spec.expo (row x r) (wrow w) := by
  unfold k0_pay6
  refine (expo_of _ _).trans ?_
  have hz := peak_apply (absf (k0_pay5 x w)) r
  simp only [abs_of, norm_apply] at hz
  rw [Spec.expo]
  exact congrArg (fun z => Spec.expoOf z (Ideal.div (Ideal.log z) (Ideal.log (Ideal.ofBits .f32 0x40000000#32)))) hz

/-- A row's codes, from the normalised row and the exponent. -/
theorem code_of (v : FVec Ideal S8192x7168 .f32) (e : FVec Ideal S8192x1 .f32) (r : Fin 8192) (k : Fin 7168) :
    truncf .fp8e4m3 (minimumf (broadcast S8192x7168 (Scalar.ofBits .f32 0x43E00000#32))
      (maximumf (broadcast S8192x7168 (Scalar.ofBits .f32 0xC3E00000#32))
        (mulf v (broadcastTo S8192x7168 (exp2 (subf (broadcast S8192x1 (Scalar.ofBits .f32 0x00000000#32)) e))
          broadcasts_S8192x1_S8192x7168)))) bitsLt_fp8e4m3_f32 (ix2 r k)
    = Spec.clip (v (ix2 r k) * Ideal.exp2 (Ideal.ofBits .f32 0x00000000#32 - e (ix2 r 0))) := by
  pointwise [Spec.clip]
  rfl

/-- A row's codes. -/
theorem code_apply (r : Fin 8192) (k : Fin 7168) : k0_pay7 x w (ix2 r k) = Spec.code (row x r) (wrow w) k := by
  unfold k0_pay7
  refine (code_of _ _ r k).trans ?_
  rw [norm_apply, expo_apply, Spec.code]

/-- A row's scale. -/
theorem scale_apply (r : Fin 8192) : k0_pay8 (k0_pay6 x w) (ix2 r 0) = Spec.scale (row x r) (wrow w) := by
  have h : ∀ e : FVec Ideal S8192x1 .f32, k0_pay8 e (ix2 r 0) = Ideal.exp2 (e (ix2 r 0)) := fun _ => rfl
  rw [h, expo_apply, Spec.scale]

/-- The scales laid out in 32 rows of 256. -/
theorem scales_apply (b : Fin 32) (l : Fin 256) : k0_pay9 (k0_pay6 x w) (ix3 b 0 l)
    = Spec.scale (row x ⟨b.val * 256 + l.val, by omega⟩) (wrow w) := by
  rw [← scale_apply]
  generalize k0_pay6 x w = e
  pointwise [k0_pay9]

/-- A row's projection. -/
theorem proj_apply (r : Fin 8192) (n : Fin 1152) : k0_pay10 (k0_pay6 x w) (k0_pay7 x w) wq ws (ix2 r n)
    = Spec.proj (row x r) (wrow w) (col wq n) (ws (ix2 0 n)) := by
  rw [Spec.proj, ← scale_apply, Spec.acc]
  simp only [← code_apply]
  generalize k0_pay7 x w = v
  generalize k0_pay6 x w = e
  pointwise [k0_pay10, col]

/-- A token's angle at a lane. -/
theorem angle_apply (r : Fin 8192) (l : Fin 128) : k0_pay11 pos freq (ix2 r l)
    = (((pos (ix2 r 0)).toInt : ℝ) : EReal) * freq (ix2 0 l) := by
  pointwise [k0_pay11]
  rfl

/-- The even lanes. -/
theorem parity_apply (r : Fin 8192) (l : Fin 128) : k0_pay14 (k0_pay13) (ix2 r l) = Spec.even l := by
  pointwise [k0_pay14, k0_pay13]
  revert l
  decide +kernel

/-- The sine with its sign. -/
theorem sine_apply (a : FVec Ideal S8192x128 .f32) (r : Fin 8192) (l : Fin 128) :
    k0_pay15 a k0_pay13 (ix2 r l) = Spec.signed (Spec.even l) (Ideal.sin (a (ix2 r l))) := by
  rw [Spec.signed, ← parity_apply r l]
  generalize k0_pay13 = e
  pointwise [k0_pay15]

/-- The cosine. -/
theorem cosine_apply (r : Fin 8192) (l : Fin 128) :
    k0_pay12 pos freq (ix2 r l) = Ideal.cos (k0_pay11 pos freq (ix2 r l)) := rfl

/-! ### A rotated head, written once for every head -/

/-- The rotation of the 128 columns of `y` from column `o` on. -/
def head (o : ℕ) (h : S8192x1152.Slices ![0, o] S8192x128) (y : FVec Ideal S8192x1152 .f32) (c : FVec Ideal S8192x128 .f32)
    (e : IVec S8192x128 1) (s : FVec Ideal S8192x128 .f32) : FVec Ideal S1x8192x128 .bf16 :=
  shapeCast S1x8192x128 (truncf .bf16 (addf (mulf (extractStridedSlice S8192x128 ![0, o] y h) c)
    (mulf (select e
      (concatenate S8192x128 1 [⟨S8192x127, extractStridedSlice S8192x127 ![0, 1] (extractStridedSlice S8192x128 ![0, o] y h) slices_S8192x128_o0_1_S8192x127⟩,
        ⟨S8192x1, extractStridedSlice S8192x1 ![0, 0] (extractStridedSlice S8192x128 ![0, o] y h) slices_S8192x128_o0_0_S8192x1⟩] concatenates_S8192x127_S8192x1_S8192x128_d1)
      (concatenate S8192x128 1 [⟨S8192x1, extractStridedSlice S8192x1 ![0, 127] (extractStridedSlice S8192x128 ![0, o] y h) slices_S8192x128_o0_127_S8192x1⟩,
        ⟨S8192x127, extractStridedSlice S8192x127 ![0, 0] (extractStridedSlice S8192x128 ![0, o] y h) slices_S8192x128_o0_0_S8192x127⟩] concatenates_S8192x1_S8192x127_S8192x128_d1)) s))
    bitsLt_bf16_f32) shapeCasts_S8192x128_S1x8192x128

/-- Lane `l` of the head starting at column `o`. -/
theorem head_apply (o : ℕ) (ho : o + 128 ≤ 1152) (h : S8192x1152.Slices ![0, o] S8192x128) (y : FVec Ideal S8192x1152 .f32)
    (c : FVec Ideal S8192x128 .f32) (e : IVec S8192x128 1) (s : FVec Ideal S8192x128 .f32) (r : Fin 8192) (l : Fin 128)
    (he : e (ix2 r l) = Spec.even l) :
    head o h y c e s (ix3 0 r l) = y (ix2 r ⟨o + l.val, by omega⟩) * c (ix2 r l)
      + y (ix2 r ⟨o + (Spec.partner l).val, by omega⟩) * s (ix2 r l) := by
  pointwise [head]
  rw [he]
  refine congrArg (fun z => y (ix2 r ⟨o + l.val, by omega⟩) * c (ix2 r l) + z * s (ix2 r l)) (Spec.select_partner l _ _ (fun i => y (ix2 r ⟨o + i.val, by omega⟩)) ?_ ?_)
  · intro hl
    rw [dif_pos (by omega)]
    exact congrArg (fun i => y (ix2 r i)) (Fin.ext (by simp; omega))
  · intro hl
    rw [dif_neg (by omega)]

/-- The rotated head as the row's mathematics. -/
theorem rope_apply (o : ℕ) (ho : o + 128 ≤ 1152) (h : S8192x1152.Slices ![0, o] S8192x128) (r : Fin 8192) (l : Fin 128) :
    head o h (k0_pay10 (k0_pay6 x w) (k0_pay7 x w) wq ws) (k0_pay12 pos freq) (k0_pay14 k0_pay13)
      (k0_pay15 (k0_pay11 pos freq) k0_pay13) (ix3 0 r l)
    = Spec.rope (Spec.even l)
      (Spec.proj (row x r) (wrow w) (col wq ⟨o + l.val, by omega⟩) (ws (ix2 0 ⟨o + l.val, by omega⟩)))
      (Spec.proj (row x r) (wrow w) (col wq ⟨o + (Spec.partner l).val, by omega⟩) (ws (ix2 0 ⟨o + (Spec.partner l).val, by omega⟩)))
      ((((pos (ix2 r 0)).toInt : ℝ) : EReal) * freq (ix2 0 l)) := by
  rw [head_apply o ho h _ _ _ _ r l (parity_apply r l), proj_apply, proj_apply, sine_apply, cosine_apply, angle_apply, Spec.rope]

/-- The last 128 columns, unrotated. -/
theorem value_apply (r : Fin 8192) (l : Fin 128) :
    k0_pay4 (k0_pay10 (k0_pay6 x w) (k0_pay7 x w) wq ws) (ix3 0 r l)
    = Spec.proj (row x r) (wrow w) (col wq ⟨1024 + l.val, by omega⟩) (ws (ix2 0 ⟨1024 + l.val, by omega⟩)) := by
  rw [← proj_apply]
  generalize k0_pay10 (k0_pay6 x w) (k0_pay7 x w) wq ws = y
  pointwise [k0_pay4]

end Cert.RefBlock

end
-- ==== Proof.RefOut.lean ====
/- UNTRUSTED — the reference's five result blocks as functions of its six operands. -/
module

public import proofs.«01_k».proof.Proof.Gen.ReferenceIdeal.Frame
public import proofs.«01_k».proof.Proof.RefBlock
public import proofs.«01_k».proof.Proof.Stack
public import Idealize.ShloMosaic.Lib.Pointwise
public import Idealize.ShloMosaic.Lib.Claim
public import Idealize.ShloMosaic.Lib.Pipeline.ValueKit

@[expose] public section

set_option maxRecDepth 16384

noncomputable section

namespace Cert.RefOut

open Idealize.ShloMosaic Cert.ReferenceIdeal Cert.ReferenceIdeal.Gen Cert.RefBlock

/-- One store of a whole array of three axes is that array. -/
theorem canon_whole3 {a b d : ℕ} {e : EltTy} (h) (v : Vec Ideal ⟨3, ![a, b, d]⟩ e) :
    View.canon (Val := Elt Ideal) [⟨Rect.unit (s := ⟨3, ![a, b, d]⟩) ![0, 0, 0] ![a, b, d] h, v⟩] = v :=
  View.canon_unit_zero (S := ⟨3, ![a, b, d]⟩) (off := ![0, 0, 0])
    (funext fun (a : Fin 3) => match a with | 0 => rfl | 1 => rfl | 2 => rfl) h v

/-- One store of a whole array of two axes is that array. -/
theorem canon_whole2 {a b : ℕ} {e : EltTy} (h) (v : Vec Ideal ⟨2, ![a, b]⟩ e) :
    View.canon (Val := Elt Ideal) [⟨Rect.unit (s := ⟨2, ![a, b]⟩) ![0, 0] ![a, b] h, v⟩] = v :=
  View.canon_unit_zero (S := ⟨2, ![a, b]⟩) (off := ![0, 0])
    (funext fun (a : Fin 2) => match a with | 0 => rfl | 1 => rfl) h v

/-- A whole array of two axes, loaded, is that array. -/
theorem ld_whole2 {a b : ℕ} {e : EltTy} (h) (v : Vec Ideal ⟨2, ![a, b]⟩ e) :
    View.ld (Val := Elt Ideal) v (Rect.unit (s := ⟨2, ![a, b]⟩) ![0, 0] ![a, b] h) = v :=
  View.ld_unit_zero (S := ⟨2, ![a, b]⟩) (off := ![0, 0])
    (funext fun (a : Fin 2) => match a with | 0 => rfl | 1 => rfl) h v

/-- The columns of a query head. -/
theorem slices (h : Fin 7) : S8192x1152.Slices ![0, 128 * h.val] S8192x128 :=
  ⟨rfl, fun a => match a with
    | 0 => show 0 + 8192 ≤ 8192 by omega
    | 1 => show 128 * h.val + 128 ≤ 1152 by omega⟩

section Heads

variable (y : FVec Ideal S8192x1152 .f32) (p : Vec Ideal S8192x1 .i32) (f : Vec Ideal S1x128 .f32)

/-- The seven query heads stored are the seven rotations. -/
theorem query_pieces (a c : FVec Ideal S8192x128 .f32) (n : IVec S8192x128 32) :
    ([⟨r0_13, k0_pay2 y c (k0_pay14 n) (k0_pay15 a n)⟩, ⟨r0_12, k0_pay1 (k0_pay22 y c (k0_pay14 n) (k0_pay15 a n))⟩,
      ⟨r0_11, k0_pay21 y c (k0_pay14 n) (k0_pay15 a n)⟩, ⟨r0_10, k0_pay20 y c (k0_pay14 n) (k0_pay15 a n)⟩,
      ⟨r0_9, k0_pay19 (k0_pay18 y a c n)⟩, ⟨r0_8, k0_pay17 y a c n⟩, ⟨r0_7, k0_pay16 y a c n⟩] :
        List (View.Piece (Elt Ideal) S7x8192x128 .bf16))
      = Stack.heads (R := 8192) (e := .bf16) fun h => head (128 * h.val) (slices h) y c (k0_pay14 n) (k0_pay15 a n) := by
  sl_kernel_rfl

/-- The key head is the rotation of columns 896 on. -/
theorem key_piece (a c : FVec Ideal S8192x128 .f32) (n : IVec S8192x128 32) :
    k0_pay3 y c (k0_pay14 n) (k0_pay15 a n) = head 896 slices_S8192x1152_o0_896_S8192x128 y c (k0_pay14 n) (k0_pay15 a n) := by
  sl_kernel_rfl

end Heads

variable (x0 : Vec Ideal S8192x7168 .bf16) (x1 : Vec Ideal S1x7168 .bf16) (x2 : Vec Ideal S7168x1152 .fp8e4m3)
  (x3 : Vec Ideal S1x1152 .f32) (x4 : Vec Ideal S8192x1 .i32) (x5 : Vec Ideal S1x128 .f32)

/-- The exponents. -/
theorem pay23_eq : k0_pay23 x0 x1 x2 x3 x4 x5 = k0_pay6 x0 x1 := by
  rw [k0_pay23, ld_whole2, ld_whole2]

/-- The codes. -/
theorem pay24_eq : k0_pay24 x0 x1 x2 x3 x4 x5 = k0_pay7 x0 x1 := by
  rw [k0_pay24, ld_whole2, ld_whole2]

/-- The projection. -/
theorem pay25_eq : k0_pay25 x0 x1 x2 x3 x4 x5 = k0_pay10 (k0_pay6 x0 x1) (k0_pay7 x0 x1) x2 x3 := by
  rw [k0_pay25, pay23_eq, pay24_eq, ld_whole2, ld_whole2]

/-- The angles. -/
theorem pay26_eq : k0_pay26 x0 x1 x2 x3 x4 x5 = k0_pay11 x4 x5 := by
  rw [k0_pay26, ld_whole2, ld_whole2]

/-- The cosines. -/
theorem pay27_eq : k0_pay27 x0 x1 x2 x3 x4 x5 = k0_pay12 x4 x5 := by
  rw [k0_pay27, ld_whole2, ld_whole2]

/-- The codes put out. -/
theorem codes_apply (r : Fin 8192) (k : Fin 7168) :
    out0_9 x0 x1 x2 x3 x4 x5 (ix2 r k) = Spec.code (row x0 r) (wrow x1) k := by
  rw [out0_9, canon_whole2, pay24_eq, code_apply]

/-- The scales put out. -/
theorem scales_apply (b : Fin 32) (l : Fin 256) :
    out0_10 x0 x1 x2 x3 x4 x5 (ix3 b (0 : Fin 1) l) = Spec.scale (row x0 ⟨b.val * 256 + l.val, by omega⟩) (wrow x1) := by
  rw [out0_10, canon_whole3, pay23_eq, RefBlock.scales_apply]

/-- The value head put out. -/
theorem value_apply (r : Fin 8192) (l : Fin 128) :
    out0_8 x0 x1 x2 x3 x4 x5 (ix3 (0 : Fin 1) r l)
      = Spec.proj (row x0 r) (wrow x1) (col x2 ⟨1024 + l.val, by omega⟩) (x3 (ix2 0 ⟨1024 + l.val, by omega⟩)) := by
  rw [out0_8, canon_whole3, pay25_eq, RefBlock.value_apply]

/-- The key head put out. -/
theorem key_apply (r : Fin 8192) (l : Fin 128) :
    out0_7 x0 x1 x2 x3 x4 x5 (ix3 (0 : Fin 1) r l)
      = Spec.rope (Spec.even l)
        (Spec.proj (row x0 r) (wrow x1) (col x2 ⟨896 + l.val, by omega⟩) (x3 (ix2 0 ⟨896 + l.val, by omega⟩)))
        (Spec.proj (row x0 r) (wrow x1) (col x2 ⟨896 + (Spec.partner l).val, by omega⟩) (x3 (ix2 0 ⟨896 + (Spec.partner l).val, by omega⟩)))
        ((((x4 (ix2 r 0)).toInt : ℝ) : EReal) * x5 (ix2 0 l)) := by
  rw [out0_7, canon_whole3, pay25_eq, pay27_eq, k0_pay29, k0_pay30, pay26_eq, key_piece]
  exact rope_apply x0 x1 x2 x3 x4 x5 896 (by omega) _ r l

/-- The query heads put out. -/
theorem query_apply (h : Fin 7) (r : Fin 8192) (l : Fin 128) :
    out0_6 x0 x1 x2 x3 x4 x5 (ix3 h r l)
      = Spec.rope (Spec.even l)
        (Spec.proj (row x0 r) (wrow x1) (col x2 ⟨128 * h.val + l.val, by omega⟩) (x3 (ix2 0 ⟨128 * h.val + l.val, by omega⟩)))
        (Spec.proj (row x0 r) (wrow x1) (col x2 ⟨128 * h.val + (Spec.partner l).val, by omega⟩)
          (x3 (ix2 0 ⟨128 * h.val + (Spec.partner l).val, by omega⟩)))
        ((((x4 (ix2 r 0)).toInt : ℝ) : EReal) * x5 (ix2 0 l)) := by
  rw [out0_6, pay25_eq, pay27_eq, k0_pay29, k0_pay30, pay26_eq, query_pieces]
  refine (Stack.canon_heads _ h r l).trans ?_
  exact rope_apply x0 x1 x2 x3 x4 x5 (128 * h.val) (by omega) _ r l

end Cert.RefOut

end
-- ==== Proof.RefValue.lean ====
/- UNTRUSTED — the reference's five result arrays are the answer's. -/
module

public import proofs.«01_k».proof.Proof.Answer
public import proofs.«01_k».proof.Proof.RefOut

@[expose] public section

set_option maxRecDepth 16384

noncomputable section

namespace Cert.RefValue

open Idealize.ShloMosaic Idealize.ShloMosaic.TcCoe Idealize.SL.Sem Cert.ReferenceIdeal Cert.ReferenceIdeal.Gen
open Idealize.ShloMosaic.Pipeline (Dat)

variable (m : (ℓ : Loc nD τ sig) → Buf (Elt Ideal) ℓ) (c : Dev nD)

/-- The activations of the call. -/
abbrev argX : Vec Ideal S1x8192x7168 .bf16 := m ((c : Thread nD τ).loc main_arg0)
/-- The weights of the norm. -/
abbrev argW : Vec Ideal S7168 .bf16 := m ((c : Thread nD τ).loc main_arg1)
/-- The projection's codes. -/
abbrev argQ : Vec Ideal S7168x1152 .fp8e4m3 := m ((c : Thread nD τ).loc main_arg2)
/-- The projection's scales. -/
abbrev argS : Vec Ideal S1152 .f32 := m ((c : Thread nD τ).loc main_arg3)
/-- The positions. -/
abbrev argP : Vec Ideal S1x8192 .i32 := m ((c : Thread nD τ).loc main_arg4)

/-- Every block is the whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![0, 0, 0] ∧ win0_7.index t = ![0, 0, 0] ∧ win0_8.index t = ![0, 0, 0]
    ∧ win0_9.index t = ![0, 0] ∧ win0_10.index t = ![0, 0, 0] :=
  (by decide +kernel : ∀ t : Fin grid0.N, _)

/-- The block of activations. -/
theorem x_blk (t : Fin cfg0.N) (r : Fin 8192) (k : Fin 7168) :
    iblk m c 0 t (ix2 r k) = argX m c (ix3 0 r k) := by
  blk_simp [iblk]
  entry_read
  have h : ((View.whole main_v3).slice (win0_0.rect t)).emb (ix2 r k : S8192x7168.Idx) = ix2 r k := by
    blk_ext [idx t]
  rw [h]
  pointwise []

/-- The block of the norm's weights. -/
theorem w_blk (t : Fin cfg0.N) (k : Fin 7168) :
    iblk m c 1 t (ix2 0 k) = argW m c (ix1 k) := by
  blk_simp [iblk]
  entry_read
  have h : ((View.whole main_v4).slice (win0_1.rect t)).emb (ix2 0 k : S1x7168.Idx) = ix2 0 k := by
    blk_ext [idx t]
  rw [h]
  pointwise []

/-- The block of the projection's codes. -/
theorem q_blk (t : Fin cfg0.N) (k : Fin 7168) (n : Fin 1152) :
    iblk m c 2 t (ix2 k n) = argQ m c (ix2 k n) := by
  blk_ext [iblk, V, idx t]

/-- The block of the projection's scales. -/
theorem s_blk (t : Fin cfg0.N) (n : Fin 1152) :
    iblk m c 3 t (ix2 0 n) = argS m c (ix1 n) := by
  blk_simp [iblk]
  entry_read
  have h : ((View.whole main_v5).slice (win0_3.rect t)).emb (ix2 0 n : S1x1152.Idx) = ix2 0 n := by
    blk_ext [idx t]
  rw [h]
  pointwise []

/-- The block of positions. -/
theorem p_blk (t : Fin cfg0.N) (r : Fin 8192) :
    iblk m c 4 t (ix2 r 0) = argP m c (ix2 0 r) := by
  blk_simp [iblk]
  entry_read
  have h : ((View.whole main_v6).slice (win0_4.rect t)).emb (ix2 r 0 : S8192x1.Idx) = ix2 r 0 := by
    blk_ext [idx t]
  rw [h]
  pointwise []

/-- The reference's frequencies: each of the 64 stands twice. -/
def freq (l : Fin 128) : EReal := Ideal.ofBits .f32 (lit0 ⟨l.val / 2, by omega⟩)

/-- The place of an entry in a table of 64 is the entry. -/
theorem lane (i : Fin 64) : (S64.rowMajor (ix1 i)).val = i.val := by
  revert i; decide +kernel

/-- The block of frequencies: the table, each entry twice. -/
theorem f_blk (t : Fin cfg0.N) (l : Fin 128) :
    iblk m c 5 t (ix2 0 l) = freq l := by
  blk_simp [iblk]
  entry_read
  have h : ((View.whole main_v2).slice (win0_5.rect t)).emb (ix2 0 l : S1x128.Idx) = ix2 0 l := by
    blk_ext [idx t]
  rw [h]
  pointwise [freq]
  exact congrArg (fun j : Fin 64 => Ideal.ofBits .f32 (lit0 j)) (Fin.ext (lane _))

/-! ### The operands' entries -/

/-- A row of the block is a token's activations. -/
theorem row_eq (t : Fin cfg0.N) (r : Fin 8192) : RefBlock.row (iblk m c 0 t) r = Answer.tok (argX m c) r :=
  funext fun k => x_blk m c t r k

/-- The row of weights is the norm's weights. -/
theorem wrow_eq (t : Fin cfg0.N) : RefBlock.wrow (iblk m c 1 t) = Answer.wgt (argW m c) :=
  funext fun k => w_blk m c t k

/-- A column of the block is a column of the projection's codes. -/
theorem col_eq (t : Fin cfg0.N) (n : Fin 1152) : RefBlock.col (iblk m c 2 t) n = Answer.col (argQ m c) n :=
  funext fun k => q_blk m c t k n

/-- A token's projection on a column. -/
theorem proj_eq (t : Fin cfg0.N) (r : Fin 8192) (n : Fin 1152) :
    Spec.proj (RefBlock.row (iblk m c 0 t) r) (RefBlock.wrow (iblk m c 1 t)) (RefBlock.col (iblk m c 2 t) n) (iblk m c 3 t (ix2 0 n))
      = Answer.proj (argX m c) (argW m c) (argQ m c) (argS m c) r n := by
  have h := s_blk m c t n
  rw [row_eq, wrow_eq, col_eq]
  exact congrArg (Spec.proj _ _ _) h

/-- A token's angle at a lane. -/
theorem angle_eq (t : Fin cfg0.N) (r : Fin 8192) (l : Fin 128) :
    ((((iblk m c 4 t (ix2 r 0) : BitVec 32).toInt : ℝ) : EReal)) * iblk m c 5 t (ix2 0 l) = Answer.angle (argP m c) freq r l := by
  have hp := p_blk m c t r
  have hf := f_blk m c t l
  exact congr (congrArg (fun (z : BitVec 32) (f : EReal) => (((z.toInt : ℝ) : EReal)) * f) hp) hf

/-! ### The five arrays -/

/-- The codes. -/
theorem codes : (dats m 0 c).arrAt 9 cfg0.N = Answer.codes (argX m c) (argW m c) := by
  refine (dats m 0 c).arrAt_eq_of_after_last 9 t0_0 (by decide +kernel) (Answer.codes (argX m c) (argW m c)) fun y => ?_
  blk_simp
  rw [after0_9]
  obtain ⟨r, k, rfl⟩ : ∃ (r : Fin 8192) (k : Fin 7168), y = (ix2 r k : S8192x7168.Idx) :=
    ⟨y 0, y 1, funext fun a => match a with | 0 => rfl | 1 => rfl⟩
  refine (RefOut.codes_apply _ _ _ _ _ _ r k).trans ?_
  rw [row_eq, wrow_eq]
  rfl

/-- The scales. -/
theorem scales : (dats m 0 c).arrAt 10 cfg0.N = Answer.scales (argX m c) (argW m c) := by
  refine (dats m 0 c).arrAt_eq_of_after_last 10 t0_0 (by decide +kernel) (Answer.scales (argX m c) (argW m c)) fun y => ?_
  blk_simp
  rw [after0_10]
  obtain ⟨b, r, rfl⟩ : ∃ (b : Fin 32) (r : Fin 256), y = (ix3 b (0 : Fin 1) r : S32x1x256.Idx) :=
    ⟨y 0, y 2, funext fun a => match a with | 0 => rfl | 1 => Subsingleton.elim (α := Fin 1) _ _ | 2 => rfl⟩
  refine (RefOut.scales_apply _ _ _ _ _ _ b r).trans ?_
  rw [row_eq, wrow_eq]
  exact congrArg (fun i => Spec.scale (Answer.tok (argX m c) i) (Answer.wgt (argW m c)))
    (Fin.ext (show b.val * 256 + r.val = 256 * b.val + r.val by omega))

/-- The value head. -/
theorem value : (dats m 0 c).arrAt 8 cfg0.N = Answer.value (argX m c) (argW m c) (argQ m c) (argS m c) := by
  refine (dats m 0 c).arrAt_eq_of_after_last 8 t0_0 (by decide +kernel)
    (Answer.value (argX m c) (argW m c) (argQ m c) (argS m c)) fun y => ?_
  blk_simp
  rw [after0_8]
  obtain ⟨r, l, rfl⟩ : ∃ (r : Fin 8192) (l : Fin 128), y = (ix3 (0 : Fin 1) r l : S1x8192x128.Idx) :=
    ⟨y 1, y 2, funext fun a => match a with | 0 => Subsingleton.elim (α := Fin 1) _ _ | 1 => rfl | 2 => rfl⟩
  exact (RefOut.value_apply _ _ _ _ _ _ r l).trans (proj_eq m c t0_0 r _)

/-- The key head. -/
theorem key : (dats m 0 c).arrAt 7 cfg0.N = Answer.key (argX m c) (argW m c) (argQ m c) (argS m c) (argP m c) freq := by
  refine (dats m 0 c).arrAt_eq_of_after_last 7 t0_0 (by decide +kernel)
    (Answer.key (argX m c) (argW m c) (argQ m c) (argS m c) (argP m c) freq) fun y => ?_
  blk_simp
  rw [after0_7]
  obtain ⟨r, l, rfl⟩ : ∃ (r : Fin 8192) (l : Fin 128), y = (ix3 (0 : Fin 1) r l : S1x8192x128.Idx) :=
    ⟨y 1, y 2, funext fun a => match a with | 0 => Subsingleton.elim (α := Fin 1) _ _ | 1 => rfl | 2 => rfl⟩
  refine (RefOut.key_apply _ _ _ _ _ _ r l).trans ?_
  rw [proj_eq, proj_eq, angle_eq]
  rfl

/-- The query heads. -/
theorem queries : (dats m 0 c).arrAt 6 cfg0.N = Answer.queries (argX m c) (argW m c) (argQ m c) (argS m c) (argP m c) freq := by
  refine (dats m 0 c).arrAt_eq_of_after_last 6 t0_0 (by decide +kernel)
    (Answer.queries (argX m c) (argW m c) (argQ m c) (argS m c) (argP m c) freq) fun y => ?_
  blk_simp
  rw [after0_6]
  obtain ⟨h, r, l, rfl⟩ : ∃ (h : Fin 7) (r : Fin 8192) (l : Fin 128), y = (ix3 h r l : S7x8192x128.Idx) :=
    ⟨y 0, y 1, y 2, funext fun a => match a with | 0 => rfl | 1 => rfl | 2 => rfl⟩
  refine (RefOut.query_apply _ _ _ _ _ _ h r l).trans ?_
  rw [proj_eq, proj_eq, angle_eq]
  rfl

end Cert.RefValue

end
-- ==== Proof.RefRun.lean ====
/- UNTRUSTED — the reference's run with its five result arrays named, and its arguments unchanged: the frame run of the
   reference, whose one grid point writes each result whole. -/
module

public import proofs.«01_k».proof.Proof.Gen.ReferenceIdeal.Frame
public import Idealize.ShloMosaic.Lib.Pipeline.Value

@[expose] public section

noncomputable section

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v7_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v7_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v7_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v7_3) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v7_4) = (dats m 0 c).arrAt 10 cfg0.N :=
  (h c).1 10

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v7_0) = (dats m 0 c).arrAt 6 cfg0.N
      ∧ r.2.mem ((c : Thread nD τ).loc main_v7_1) = (dats m 0 c).arrAt 7 cfg0.N
      ∧ r.2.mem ((c : Thread nD τ).loc main_v7_2) = (dats m 0 c).arrAt 8 cfg0.N
      ∧ r.2.mem ((c : Thread nD τ).loc main_v7_3) = (dats m 0 c).arrAt 9 cfg0.N
      ∧ r.2.mem ((c : Thread nD τ).loc main_v7_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post6 m r h c,
      post7 m r h c,
      post8 m r h c,
      post9 m r h c,
      post10 m r h c,
      kept_main_arg0 m r h c,
      kept_main_arg1 m r h c,
      kept_main_arg2 m r h c,
      kept_main_arg3 m r h c,
      kept_main_arg4 m r h c⟩)
    (run_main m ρ)

end Cert.ReferenceIdeal.Run

end
-- ==== Proof.Same.lean ====
/- UNTRUSTED — the kernel and the reference, run on the same arguments, end with the same five arrays. -/
module

public import proofs.«01_k».proof.Defs
public import proofs.«01_k».proof.Proof.Final
public import proofs.«01_k».proof.Proof.RefValue
public import proofs.«01_k».proof.Proof.RefRun

@[expose] public section

set_option maxRecDepth 16384

noncomputable section

namespace Cert.Same

open Idealize.ShloMosaic Idealize.ShloMosaic.TcCoe Idealize.SL.Sem

/-- The two tables of frequencies agree: the kernel's has 128 entries, the reference's 64, each used twice. -/
theorem table : ∀ l : Fin 128, Cert.ReferenceIdeal.lit0 ⟨l.val / 2, by omega⟩ = Cert.KernelIdeal.lit0 l := by
  decide +kernel

/-- … so the frequencies do. -/
theorem freq : RefValue.freq = Arrays.freq :=
  funext fun l => congrArg (Ideal.ofBits .f32) (table l)

/-- From the same arguments both programs run, and leave the same five arrays. -/
theorem algebraic : Cert.algebraic_KernelIdeal_ReferenceIdeal := by
  intro m g m' g' _ hargs
  refine ⟨fun c => Answer.queries (Operands.argX m c) (Operands.argW m c) (Operands.argQ m c) (Operands.argS m c) (Operands.argP m c) Arrays.freq,
    fun c => Answer.key (Operands.argX m c) (Operands.argW m c) (Operands.argQ m c) (Operands.argS m c) (Operands.argP m c) Arrays.freq,
    fun c => Answer.value (Operands.argX m c) (Operands.argW m c) (Operands.argQ m c) (Operands.argS m c),
    fun c => Answer.codes (Operands.argX m c) (Operands.argW m c),
    fun c => Answer.scales (Operands.argX m c) (Operands.argW m c), ?_, ?_⟩
  · refine (θ_run _ _ _).mono (fun r h c => ?_) (Cert.KernelIdeal.Value.run_blocks m g)
    obtain ⟨h0, h1, h2, h3, h4, ha⟩ := h c
    exact ⟨h0.trans (Final.queries m c), h1.trans (Final.key m c), h2.trans (Final.value m c), h3.trans (Final.codes m c),
      h4.trans (Final.scales m c), ha⟩
  · refine (θ_run _ _ _).mono (fun r h c => ?_) (Cert.ReferenceIdeal.Run.run_blocks m' g')
    obtain ⟨h0, h1, h2, h3, h4, ha⟩ := h c
    obtain ⟨e0, e1, e2, e3, e4⟩ := hargs c
    have x : RefValue.argX m' c = Operands.argX m c := e0
    have w : RefValue.argW m' c = Operands.argW m c := e1
    have q : RefValue.argQ m' c = Operands.argQ m c := e2
    have s : RefValue.argS m' c = Operands.argS m c := e3
    have p : RefValue.argP m' c = Operands.argP m c := e4
    have r0 := RefValue.queries m' c
    have r1 := RefValue.key m' c
    have r2 := RefValue.value m' c
    have r3 := RefValue.codes m' c
    have r4 := RefValue.scales m' c
    rw [x, w, q, s, p, freq] at r0 r1
    rw [x, w, q, s] at r2
    rw [x, w] at r3 r4
    exact ⟨h0.trans r0, h1.trans r1, h2.trans r2, h3.trans r3, h4.trans r4, ha⟩

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Same
public import Idealize.ShloMosaic.Adequacy
public import Idealize.ShloMosaic.Init

@[expose] public section

noncomputable section

namespace Cert.Proof

open Idealize.ShloMosaic Idealize.SL.Sem Cert.Kernel

/-- The kernel runs, whatever its arguments, leaves them as they were and every semaphore at zero. -/
theorem frame_kernel : quiescent_Kernel := fun m g _ => Cert.Kernel.Gen.frame m g

/-- So does the kernel over the reals. -/
theorem frame_kernel_ideal : quiescent_KernelIdeal := fun m g _ => Cert.KernelIdeal.Gen.frame m g

/-- So does the reference over the reals. -/
theorem frame_reference_ideal : quiescent_ReferenceIdeal := fun m g _ => Cert.ReferenceIdeal.Gen.frame m g

/-- Each literal given a name stands, over the reals, for the real number it is named for. -/
theorem preserves : preserves_Kernel_KernelIdeal :=
  ⟨IdealRules.named_const.statement Cert.KernelIdeal.κ "two_pi_hi" .f32 0x40C90000#32
      (((607618132197707707 / 303902672285820882) * Real.pi : ℝ) : EReal) rfl,
    IdealRules.named_const.statement Cert.KernelIdeal.κ "two_pi_mid" .f32 0x3AFDAA22#32
      (((611 / 991839) * Real.pi : ℝ) : EReal) rfl,
    IdealRules.named_const.statement Cert.KernelIdeal.κ "two_pi_lo" .f32 0x2D346000#32
      (((1 / 306403229038) * Real.pi : ℝ) : EReal) rfl,
    IdealRules.named_const.statement Cert.KernelIdeal.κ "inv_d_model" .f32 0x39124925#32 ((1 / 7168 : ℝ) : EReal) rfl,
    IdealRules.named_const.statement Cert.KernelIdeal.κ "log2_e" .f32 0x3FB8AA3B#32 (((Real.log 2)⁻¹ : ℝ) : EReal) rfl⟩

/-- The whole claim. -/
theorem claim : Cert.Claim :=
  ⟨Cert.Kernel.Gen.facts, Cert.KernelIdeal.Gen.facts, Cert.ReferenceIdeal.Gen.facts,
    frame_kernel, frame_kernel_ideal, frame_reference_ideal, preserves, Cert.Same.algebraic⟩

end Cert.Proof

end
